-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "scale_x" .f32 0x3F7E7A5E#32 ((2520227950547453266280397952877 / 2535301200456458802993406410752 : ℝ) : EReal)
  ∧ IdealRules.named_const.Statement Cert.KernelIdeal.κ "scale_conv" .f32 0xBB84DCE1#32 ((-328952368924001807490233205275 / 81129638414606681695789005144064 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x128x10000 : Shape := ⟨3, ![1, 128, 10000]⟩
abbrev S2x160000 : Shape := ⟨2, ![2, 160000]⟩
abbrev S128x128 : Shape := ⟨2, ![128, 128]⟩
abbrev S1x128x128 : Shape := ⟨3, ![1, 128, 128]⟩
abbrev S128 : Shape := ⟨1, ![128]⟩
abbrev S1024x128 : Shape := ⟨2, ![1024, 128]⟩
abbrev S1024 : Shape := ⟨1, ![1024]⟩
abbrev S_ : Shape := ⟨0, ![]⟩

class Facts : Prop where
  bcast_S_S1x128x10000 : S_.BroadcastsInDim S1x128x10000 (![] : Fin 0 → Fin S1x128x10000.rank)
  reducesTo_S1x128x10000_S_d0_1_2 : S1x128x10000.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128x128 : S_.BroadcastsInDim S1x128x128 (![] : Fin 0 → Fin S1x128x128.rank)
  reducesTo_S1x128x128_S_d0_1_2 : S1x128x128.ReducesTo [0, 1, 2] S_
  bcast_S_S128 : S_.BroadcastsInDim S128 (![] : Fin 0 → Fin S128.rank)
  reducesTo_S128_S_d0 : S128.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1x128x128 .f32) (main_arg7 : FVec F S128 .f32) (main_arg9 : FVec F S1024 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128x128 .f32 := Host.absf main_arg5
  let main_cst_6 : FVec F S_ .f32 := constant S_ .f32 0x7F800000#32
  let main_v20 : FVec F S1x128x128 .f32 := broadcastInDim S1x128x128 ![] bcast_S_S1x128x128 main_cst_6
  let main_v21 : IVec S1x128x128 1 := cmpf .olt main_v19 main_v20
  let main_c_7 : IVec S_ 1 := constantI S_ 1 1#1
  let main_v22 : IVec S_ 1 := (fun x v => Host.reduce IntOp.andi x v reducesTo_S1x128x128_S_d0_1_2 h_S_) main_v21 main_c_7
  let main_v23 : IVec S_ 1 := andi main_v18 main_v22
  let main_cst_8 : FVec F S_ .f32 := constant S_ .f32 0x00000000#32
  let main_v24 : FVec F S128 .f32 := broadcastInDim S128 ![] bcast_S_S128 main_cst_8
  let main_v25 : IVec S128 1 := cmpf .oeq main_arg7 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v23 main_v26
  let main_cst_10 : FVec F S_ .f32 := constant S_ .f32 0x00000000#32
  let main_v28 : FVec F S1024 .f32 := broadcastInDim S1024 ![] bcast_S_S1024 main_cst_10
  let main_v29 : IVec S1024 1 := cmpf .oeq main_arg9 main_v28
  let main_c_11 : IVec S_ 1 := constantI S_ 1 1#1
  let main_v30 : IVec S_ 1 := (fun x v => Host.reduce IntOp.andi x v reducesTo_S1024_S_d0 h_S_) main_v29 main_c_11
  let main_v31 : IVec S_ 1 := andi main_v27 main_v30
  main_v31

def fn {F : FTy → Type} [FloatOps F] (main_arg0 : FVec F S1x128x10000 .f32) (main_arg1 : IVec S2x160000 32) (main_arg2 : FVec F S128x128 .f32) (main_arg3 : FVec F S128x128 .f32) (main_arg4 : FVec F S128x128 .f32) (main_arg5 : FVec F S1x128x128 .f32) (main_arg6 : FVec F S128x128 .f32) (main_arg7 : FVec F S128 .f32) (main_arg8 : FVec F S1024x128 .f32) (main_arg9 : FVec F S1024 .f32) : IVec S_ 1 :=
  let main_v0 : FVec F S1x128x10000 .f32 := Host.absf main_arg0
  let main_cst : FVec F S_ .f32 := constant S_ .f32 0x7F800000#32
  let main_v1 : FVec F S1x128x10000 .f32 := broadcastInDim S1x128x10000 ![] bcast_S_S1x128x10000 main_cst
  let main_v2 : IVec S1x128x10000 1 := cmpf .olt main_v0 main_v1
  let main_c : IVec S_ 1 := constantI S_ 1 1#1
  let main_v3 : IVec S_ 1 := (fun x v => Host.reduce IntOp.andi x v reducesTo_S1x128x10000_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg7 main_arg9 main_v13 main_v16
-- ==== Kernel.lean ====
abbrev S1x128x10000 : Shape := ⟨3, ![1, 128, 10000]⟩
abbrev S2x160000 : Shape := ⟨2, ![2, 160000]⟩
abbrev S128x128 : Shape := ⟨2, ![128, 128]⟩
abbrev S1x128x128 : Shape := ⟨3, ![1, 128, 128]⟩
abbrev S128 : Shape := ⟨1, ![128]⟩
abbrev S1024x128 : Shape := ⟨2, ![1024, 128]⟩
abbrev S1024 : Shape := ⟨1, ![1024]⟩
abbrev S128x10000 : Shape := ⟨2, ![128, 10000]⟩
abbrev S10000x1024 : Shape := ⟨2, ![10000, 1024]⟩
abbrev S128x5120 : Shape := ⟨2, ![128, 5120]⟩
abbrev S2048x1024 : Shape := ⟨2, ![2048, 1024]⟩
abbrev S4 : Shape := ⟨1, ![4]⟩
abbrev S128x10240 : Shape := ⟨2, ![128, 10240]⟩
abbrev S1 : Shape := ⟨1, ![1]⟩
abbrev S1x128x5120 : Shape := ⟨3, ![1, 128, 5120]⟩
abbrev S1x1x1 : Shape := ⟨3, ![1, 1, 1]⟩
abbrev S128x2048 : Shape := ⟨2, ![128, 2048]⟩
abbrev S2048 : Shape := ⟨1, ![2048]⟩
abbrev S2048x1 : Shape := ⟨2, ![2048, 1]⟩

abbrev nBuf : Space → Nat
  | .hbm => 13
  | .vmem => 12
  | .smem => 1
  | _ => 0

abbrev bufTy : (tb : Table) → Fin (tcTables nBuf tb) → BufTy
  | .hbm, ⟨0, _⟩ => ⟨S1x128x10000, .f32⟩
  | .hbm, ⟨1, _⟩ => ⟨S2x160000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x128x128, .f32⟩
  | .hbm, ⟨6, _⟩ => ⟨S128x128, .f32⟩
  | .hbm, ⟨7, _⟩ => ⟨S128, .f32⟩
  | .hbm, ⟨8, _⟩ => ⟨S1024x128, .f32⟩
  | .hbm, ⟨9, _⟩ => ⟨S1024, .f32⟩
  | .hbm, ⟨10, _⟩ => ⟨S128x10000, .f32⟩
  | .hbm, ⟨11, _⟩ => ⟨S128x128, .f32⟩
  | .hbm, ⟨12, _⟩ => ⟨S10000x1024, .f32⟩
  | .local _ .vmem, ⟨0, _⟩ => ⟨S128x5120, .f32⟩
  | .local _ .vmem, ⟨1, _⟩ => ⟨S128x5120, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1024x128, .f32⟩
  | .local _ .vmem, ⟨8, _⟩ => ⟨S2048x1024, .f32⟩
  | .local _ .vmem, ⟨9, _⟩ => ⟨S2048x1024, .f32⟩
  | .local _ .vmem, ⟨10, _⟩ => ⟨S128x128, .f32⟩
  | .local _ .vmem, ⟨11, _⟩ => ⟨S128x10240, .f32⟩
  | .local _ .smem, ⟨0, _⟩ => ⟨S4, .f32⟩
  | _, _ => ⟨S1x128x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_9 : Index := 0#32
  let arg0 : BitVec 32 := BitVec.ofNat 32 (i 0).val
  let c5120_i32 : BitVec 32 := 5120#32
  let v18 : BitVec 32 := Scalar.muli arg0 c5120_i32
  let v19 : Index := Scalar.indexCast v18
  ![0, v19.toNat]
def k0_cond4 (i : grid0.Coords) : BitVec 1 :=
  let arg0 : BitVec 32 := BitVec.ofNat 32 (i 0).val
  let c2_i32_4 : BitVec 32 := 2#32
  let v9 : BitVec 1 := Scalar.cmpi .sge arg0 c2_i32_4
  let v10 : BitVec 32 := Scalar.extui v9
  let c0_i32_5 : BitVec 32 := 0#32
  let v11 : BitVec 1 := Scalar.cmpi .ne v10 c0_i32_5
  v11

def k0_off2 (i : grid0.Coords) : Fin 2 → Nat :=
  let c0 : Index := 0#32
  let arg0 : BitVec 32 := BitVec.ofNat 32 (i 0).val
  let c2_i32_6 : BitVec 32 := 2#32
  let v12 : BitVec 32 := Scalar.subi arg0 c2_i32_6
  let c2048_i32 : BitVec 32 := 2048#32
  let v13 : BitVec 32 := Scalar.muli v12 c2048_i32
  let v14 : Index := Scalar.indexCast v13
  ![0, v14.toNat]
def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "scale_conv" => some ((-328952368924001807490233205275 / 81129638414606681695789005144064 : ℝ) : EReal)
  | "scale_x" => some ((2520227950547453266280397952877 / 2535301200456458802993406410752 : ℝ) : EReal)
  | _ => none
-- ==== ReferenceIdeal.lean ====
abbrev S1x128x10000 : Shape := ⟨3, ![1, 128, 10000]⟩
abbrev S2x160000 : Shape := ⟨2, ![2, 160000]⟩
abbrev S128x128 : Shape := ⟨2, ![128, 128]⟩
abbrev S1x128x128 : Shape := ⟨3, ![1, 128, 128]⟩
abbrev S128 : Shape := ⟨1, ![128]⟩
abbrev S1024x128 : Shape := ⟨2, ![1024, 128]⟩
abbrev S1024 : Shape := ⟨1, ![1024]⟩
abbrev S1x10000x128 : Shape := ⟨3, ![1, 10000, 128]⟩
abbrev S_ : Shape := ⟨0, ![]⟩
abbrev S128x10000 : Shape := ⟨2, ![128, 10000]⟩
abbrev S10000x128 : Shape := ⟨2, ![10000, 128]⟩
abbrev S1x128 : Shape := ⟨2, ![1, 128]⟩
abbrev S128x1024 : Shape := ⟨2, ![128, 1024]⟩
abbrev S10000x1024 : Shape := ⟨2, ![10000, 1024]⟩
abbrev S1x1024 : Shape := ⟨2, ![1, 1024]⟩
abbrev S10000 : Shape := ⟨1, ![10000]⟩
abbrev S10000x1 : Shape := ⟨2, ![10000, 1]⟩

abbrev nBuf : Space → Nat
  | .hbm => 105
  | .vmem => 0
  | .smem => 0
  | _ => 0

abbrev bufTy : (tb : Table) → Fin (tcTables nBuf tb) → BufTy
  | .hbm, ⟨0, _⟩ => ⟨S1x128x10000, .f32⟩
  | .hbm, ⟨1, _⟩ => ⟨S2x160000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x128x128, .f32⟩
  | .hbm, ⟨6, _⟩ => ⟨S128x128, .f32⟩
  | .hbm, ⟨7, _⟩ => ⟨S128, .f32⟩
  | .hbm, ⟨8, _⟩ => ⟨S1024x128, .f32⟩
  | .hbm, ⟨9, _⟩ => ⟨S1024, .f32⟩
  | .hbm, ⟨10, _⟩ => ⟨S1x10000x128, .f32⟩
  | .hbm, ⟨11, _⟩ => ⟨S1x128x10000, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x128x10000, .f32⟩
  | .hbm, ⟨17, _⟩ => ⟨S1x128x10000, .f32⟩
  | .hbm, ⟨18, _⟩ => ⟨S1x128x10000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x128x10000, .f32⟩
  | .hbm, ⟨24, _⟩ => ⟨S1x128x10000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x128x10000, .f32⟩
  | .hbm, ⟨29, _⟩ => ⟨S1x128x10000, .f32⟩
  | .hbm, ⟨30, _⟩ => ⟨S1x128x10000, .f32⟩
  | .hbm, ⟨31, _⟩ => ⟨S1x10000x128, .f32⟩
  | .hbm, ⟨32, _⟩ => ⟨S1x128x10000, .f32⟩
  | .hbm, ⟨33, _⟩ => ⟨S_, .f32⟩
  | .hbm, ⟨34, _⟩ => ⟨S1x128x10000, .f32⟩
  | .hbm, ⟨35, _⟩ => ⟨S1x128x10000, .f32⟩
  | .hbm, ⟨36, _⟩ => ⟨S1x128x10000, .f32⟩
  | .hbm, ⟨37, _⟩ => ⟨S128x128, .f32⟩
  | .hbm, ⟨38, _⟩ => ⟨S_, .f32⟩
  | .hbm, ⟨39, _⟩ => ⟨S1x128x10000, .f32⟩
  | .hbm, ⟨40, _⟩ => ⟨S1x128x10000, .f32⟩
  | .hbm, ⟨41, _⟩ => ⟨S_, .f32⟩
  | .hbm, ⟨42, _⟩ => ⟨S1x128x10000, .f32⟩
  | .hbm, ⟨43, _⟩ => ⟨S1x128x10000, .f32⟩
  | .hbm, ⟨44, _⟩ => ⟨S1x128x10000, .f32⟩
  | .hbm, ⟨45, _⟩ => ⟨S_, .f32⟩
  | .hbm, ⟨46, _⟩ => ⟨S1x128x10000, .f32⟩
  | .hbm, ⟨47, _⟩ => ⟨S1x128x10000, .f32⟩
  | .hbm, ⟨48, _⟩ => ⟨S1x10000x128, .f32⟩
  | .hbm, ⟨49, _⟩ => ⟨S1x128x10000, .f32⟩
  | .hbm, ⟨50, _⟩ => ⟨S_, .f32⟩
  | .hbm, ⟨51, _⟩ => ⟨S1x128x10000, .f32⟩
  | .hbm, ⟨52, _⟩ => ⟨S1x128x10000, .f32⟩
  | .hbm, ⟨53, _⟩ => ⟨S1x128x10000, .f32⟩
  | .hbm, ⟨54, _⟩ => ⟨S_, .f32⟩
  | .hbm, ⟨55, _⟩ => ⟨S1x128x10000, .f32⟩
  | .hbm, ⟨56, _⟩ => ⟨S1x128x10000, .f32⟩
  | .hbm, ⟨57, _⟩ => ⟨S_, .f32⟩
  | .hbm, ⟨58, _⟩ => ⟨S1x128x10000, .f32⟩
  | .hbm, ⟨59, _⟩ => ⟨S1x128x10000, .f32⟩
  | .hbm, ⟨60, _⟩ => ⟨S1x128x10000, .f32⟩
  | .hbm, ⟨61, _⟩ => ⟨S1x10000x128, .f32⟩
  | .hbm, ⟨62, _⟩ => ⟨S1x128x10000, .f32⟩
  | .hbm, ⟨63, _⟩ => ⟨S128x10000, .f32⟩
  | .hbm, ⟨64, _⟩ => ⟨S10000x128, .f32⟩
  | .hbm, ⟨65, _⟩ => ⟨S128x128, .f32⟩
  | .hbm, ⟨66, _⟩ => ⟨S10000x128, .f32⟩
  | .hbm, ⟨67, _⟩ => ⟨S1x128, .f32⟩
  | .hbm, ⟨68, _⟩ => ⟨S10000x128, .f32⟩
  | .hbm, ⟨69, _⟩ => ⟨S10000x128, .f32⟩
  | .hbm, ⟨70, _⟩ => ⟨S_, .f32⟩
  | .hbm, ⟨71, _⟩ => ⟨S10000x128, .f32⟩
  | .hbm, ⟨72, _⟩ => ⟨S10000x128, .i1⟩
  | .hbm, ⟨73, _⟩ => ⟨S_, .f32⟩
  | .hbm, ⟨74, _⟩ => ⟨S10000x128, .f32⟩
  | .hbm, ⟨75, _⟩ => ⟨S10000x128, .i1⟩
  | .hbm, ⟨76, _⟩ => ⟨S_, .f32⟩
  | .hbm, ⟨77, _⟩ => ⟨S_, .f32⟩
  | .hbm, ⟨78, _⟩ => ⟨S10000x128, .f32⟩
  | .hbm, ⟨79, _⟩ => ⟨S10000x128, .f32⟩
  | .hbm, ⟨80, _⟩ => ⟨S10000x128, .f32⟩
  | .hbm, ⟨81, _⟩ => ⟨S_, .f32⟩
  | .hbm, ⟨82, _⟩ => ⟨S10000x128, .f32⟩
  | .hbm, ⟨83, _⟩ => ⟨S10000x128, .f32⟩
  | .hbm, ⟨84, _⟩ => ⟨S10000x128, .f32⟩
  | .hbm, ⟨85, _⟩ => ⟨S128x1024, .f32⟩
  | .hbm, ⟨86, _⟩ => ⟨S10000x1024, .f32⟩
  | .hbm, ⟨87, _⟩ => ⟨S1x1024, .f32⟩
  | .hbm, ⟨88, _⟩ => ⟨S10000x1024, .f32⟩
  | .hbm, ⟨89, _⟩ => ⟨S10000x1024, .f32⟩
  | .hbm, ⟨90, _⟩ => ⟨S_, .f32⟩
  | .hbm, ⟨91, _⟩ => ⟨S10000, .f32⟩
  | .hbm, ⟨92, _⟩ => ⟨S_, .f32⟩
  | .hbm, ⟨93, _⟩ => ⟨S10000, .f32⟩
  | .hbm, ⟨94, _⟩ => ⟨S10000, .f32⟩
  | .hbm, ⟨95, _⟩ => ⟨S10000x1, .f32⟩
  | .hbm, ⟨96, _⟩ => ⟨S10000x1024, .f32⟩
  | .hbm, ⟨97, _⟩ => ⟨S10000x1024, .f32⟩
  | .hbm, ⟨98, _⟩ => ⟨S10000x1024, .f32⟩
  | .hbm, ⟨99, _⟩ => ⟨S_, .f32⟩
  | .hbm, ⟨100, _⟩ => ⟨S10000, .f32⟩
  | .hbm, ⟨101, _⟩ => ⟨S10000x1, .f32⟩
  | .hbm, ⟨102, _⟩ => ⟨S10000x1, .f32⟩
  | .hbm, ⟨103, _⟩ => ⟨S10000x1024, .f32⟩
  | .hbm, ⟨104, _⟩ => ⟨S10000x1024, .f32⟩
  | _, _ => ⟨S1x128x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_cst_1 : Ref sig .tc := ⟨.hbm, 76, rfl⟩
abbrev main_call0_call0_v0 : Ref sig .tc := ⟨.hbm, 77, rfl⟩
abbrev main_call0_call0_v1 : Ref sig .tc := ⟨.hbm, 78, rfl⟩
abbrev main_call0_v4 : Ref sig .tc := ⟨.hbm, 79, rfl⟩
abbrev main_call0_v5 : Ref sig .tc := ⟨.hbm, 80, rfl⟩
abbrev main_call0_cst_2 : Ref sig .tc := ⟨.hbm, 81, rfl⟩
abbrev main_call0_v6 : Ref sig .tc := ⟨.hbm, 82, rfl⟩
abbrev main_call0_v7 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call1_cst : Ref sig .tc := ⟨.hbm, 90, rfl⟩
abbrev main_call1_v0 : Ref sig .tc := ⟨.hbm, 91, rfl⟩
abbrev main_call1_cst_0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_cst_1 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_v54 : Ref sig .tc := ⟨.hbm, 104, rfl⟩

abbrev nD : Nat := 1
abbrev τ : Topo := Topo.v7x

variable {F : FTy → Type} [FloatOps F]
-- ==== Proof.KernelIdeal.Body.lean ====
module

public import proofs.«01_k».proof.Proof.Gen.KernelIdeal.Frame
public import proofs.«01_k».proof.Proof.Gen.KernelIdeal.Skeleton
public import Idealize.ShloMosaic.Lib.VecWindow
public import Idealize.ShloMosaic.Lib.ValueIdx

/-!
What one run of the kernel's body does at a grid point, over arbitrary staging buffers: the four cases the body's
conditions leave (the first point, the second, the third, the later ones). Each theorem says what the three scratch
buffers and the output buffer hold afterwards, as functions of what the buffers held before; the input buffers are
left as they were.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1)

variable {F : FTy → Type} [FloatOps F] [Named F]

local notation "𝕄" => MT nD τ sig Unit (Elt F) ℕ (UR sig nD τ) ℕ

/-- The condition under which the body sets up its scratch buffers: the grid point is the first. -/
abbrev cond1 (i : grid0.Coords) : Prop :=
  Scalar.cmpi .ne (Scalar.extui (Scalar.cmpi .eq (BitVec.ofNat 32 (i 0).val) 0#32) : BitVec 32) 0#32 = 1#1

/-- The condition under which the body turns the two sums into mean and reciprocal deviation: the third point. -/
abbrev cond3 (i : grid0.Coords) : Prop :=
  Scalar.cmpi .ne (Scalar.extui (Scalar.cmpi .eq (BitVec.ofNat 32 (i 0).val) 2#32) : BitVec 32) 0#32 = 1#1

/-! ## Contents after a store -/

/-- What a view reads after one more write: the piece written laid over what it read before. -/
theorem read_writes_overlay {κ : Kind} {sp : Space} {s : Shape} {e : EltTy} (v : View sig κ sp s e) (f : v.ty.Contents (Elt F))
    (p : View.Piece (Elt F) s e) (L : List (View.Piece (Elt F) s e)) :
    v.read (Elt F) (v.writes (Elt F) f (p :: L)) = p.1.overlay (v.read (Elt F) (v.writes (Elt F) f L)) p.2 := by
  funext y
  by_cases hy : y ∈ p.1.set
  · obtain ⟨x, rfl⟩ : ∃ x, p.1.emb x = y := by simpa [← Rect.map_emb_univ] using hy
    rw [Rect.overlay_emb]; exact View.read_writes_cons_emb v f p.1 p.2 L x
  · rw [Rect.overlay_of_not_mem _ _ _ hy]; exact View.read_writes_cons_miss v f p L y hy

theorem read_writes_nil {κ : Kind} {sp : Space} {s : Shape} {e : EltTy} (v : View sig κ sp s e) (f : v.ty.Contents (Elt F)) :
    v.read (Elt F) (v.writes (Elt F) f []) = v.read (Elt F) f := rfl

/-- Laying a piece of the full size over contents leaves the piece. -/
theorem overlay_full {s : Shape} {α : Type} (X : s.Idx → α) {off : Fin s.rank → ℕ} (inb : ∀ a, off a + s.size a ≤ s.size a) (G : s.Idx → α) :
    (Rect.unit off s.size inb).overlay X G = G := by
  funext y
  have : (Rect.unit off s.size inb).emb y = y := funext fun a => Fin.ext (by
    show off a + 1 * (y a).val = (y a).val
    have := inb a; omega)
  conv_lhs => rw [← this]
  exact Rect.overlay_emb (Rect.unit off s.size inb) X G y

/-- Contents of the four-word table with word `k` replaced by `v`. -/
def setCell (k : ℕ) (v : Elt F .f32) (S : Vec F S4 .f32) : Vec F S4 .f32 := fun j => if (j 0).val = k then v else S j

/-- Storing one word of the table replaces that word. -/
theorem overlay_cell (k : ℕ) (inb : ∀ a, (![k] : Fin 1 → ℕ) a + (![1] : Fin 1 → ℕ) a ≤ S4.size a) (S : Vec F S4 .f32) (v : Elt F .f32) :
    (Rect.unit (s := S4) ![k] ![1] inb).overlay S (fun _ => v) = setCell k v S := by
  funext y
  unfold setCell
  by_cases hy : y ∈ (Rect.unit (s := S4) ![k] ![1] inb).set
  · obtain ⟨x, rfl⟩ : ∃ x, (Rect.unit (s := S4) ![k] ![1] inb).emb x = y := by simpa [← Rect.map_emb_univ] using hy
    rw [Rect.overlay_emb, if_pos]
    show k + 1 * (x 0).val = k
    have : (x 0).val < 1 := (x 0).isLt
    omega
  · rw [Rect.overlay_of_not_mem _ _ _ hy, if_neg]
    intro h
    apply hy
    rw [Rect.mem_set_unit]
    intro a
    have : a = 0 := Subsingleton.elim (α := Fin 1) _ _
    subst this
    show k ≤ (y 0).val ∧ (y 0).val < k + 1
    omega

theorem setCell_ix (k l : ℕ) (hl : l < 4) (v : Elt F .f32) (S : Vec F S4 .f32) :
    setCell k v S (ix1 (n := 4) ⟨l, hl⟩) = if l = k then v else S (ix1 (n := 4) ⟨l, hl⟩) := rfl

/-- A load of one word of the table reads that word. -/
theorem ld_cell (k : ℕ) (hk : k < 4) (inb : ∀ a, (![k] : Fin 1 → ℕ) a + (![1] : Fin 1 → ℕ) a ≤ S4.size a) (v : View sig .tc .smem S4 .f32) (f : v.ty.Contents (Elt F))
    (x : (Rect.unit (s := S4) ![k] ![1] inb).shape.Idx) : v.readAt (Elt F) (Rect.unit (s := S4) ![k] ![1] inb).toLoadRect f x = v.read (Elt F) f (ix1 (n := 4) ⟨k, hk⟩) := by
  refine congrArg (v.read (Elt F) f) (funext fun a => Fin.ext ?_)
  have : a = 0 := Subsingleton.elim (α := Fin 1) _ _
  subst this
  show k + 1 * (x 0).val = k
  have : (x 0).val < 1 := (x 0).isLt
  omega

/-- A load of a whole small matrix reads it. -/
theorem ld_m (v : View sig .tc .vmem S128x128 .f32) (f : v.ty.Contents (Elt F)) (inb : ∀ a, (![0, 0] : Fin 2 → ℕ) a + (![128, 128] : Fin 2 → ℕ) a ≤ S128x128.size a) :
    v.readAt (Elt F) (Rect.unit (s := S128x128) ![0, 0] ![128, 128] inb).toLoadRect f = v.read (Elt F) f := View.readAt_full v f inb
/-- A load of the whole input block reads it. -/
theorem ld_x (v : View sig .tc .vmem S128x5120 .f32) (f : v.ty.Contents (Elt F)) (inb : ∀ a, (![0, 0] : Fin 2 → ℕ) a + (![128, 5120] : Fin 2 → ℕ) a ≤ S128x5120.size a) :
    v.readAt (Elt F) (Rect.unit (s := S128x5120) ![0, 0] ![128, 5120] inb).toLoadRect f = v.read (Elt F) f := View.readAt_full v f inb
/-- A load of the whole last matrix reads it. -/
theorem ld_l (v : View sig .tc .vmem S1024x128 .f32) (f : v.ty.Contents (Elt F)) (inb : ∀ a, (![0, 0] : Fin 2 → ℕ) a + (![1024, 128] : Fin 2 → ℕ) a ≤ S1024x128.size a) :
    v.readAt (Elt F) (Rect.unit (s := S1024x128) ![0, 0] ![1024, 128] inb).toLoadRect f = v.read (Elt F) f := View.readAt_full v f inb
/-- A store of a whole small matrix leaves it. -/
theorem st_m (X G : Vec F S128x128 .f32) (inb : ∀ a, (![0, 0] : Fin 2 → ℕ) a + (![128, 128] : Fin 2 → ℕ) a ≤ S128x128.size a) :
    (Rect.unit (s := S128x128) ![0, 0] ![128, 128] inb).overlay X G = G := overlay_full X inb G
/-- A store of a whole output block leaves it. -/
theorem st_o (X G : Vec F S2048x1024 .f32) (inb : ∀ a, (![0, 0] : Fin 2 → ℕ) a + (![2048, 1024] : Fin 2 → ℕ) a ≤ S2048x1024.size a) :
    (Rect.unit (s := S2048x1024) ![0, 0] ![2048, 1024] inb).overlay X G = G := overlay_full X inb G

/-- The block of z a point below 2 writes, laid over the scratch buffer. -/
abbrev putZ (i : grid0.Coords) (h2 : k0_cond2 i = 1#1) (Z : Vec F S128x10240 .f32) (P : Vec F S128x5120 .f32) : Vec F S128x10240 .f32 :=
  (Rect.unit (s := S128x10240) (k0_off1 i) S128x5120.size (k0_off1_inb i h2)).overlay Z P

/-- The block of z a point from 2 on reads off the scratch buffer. -/
abbrev getZ (i : grid0.Coords) (h4 : k0_cond4 i = 1#1) (Z : Vec F S128x10240 .f32) : Vec F S128x2048 .f32 :=
  fun x => Z ((Rect.unit (s := S128x10240) (k0_off2 i) S128x2048.size (k0_off2_inb i h4)).emb x)

/-- The eight staging buffers and the three scratch buffers, each held at given contents. -/
abbrev heldAll (c : Dev nD)
    (a1 : Memref sig .tc .vmem S128x5120 .f32) (a2 a3 a4 a5 a6 : Memref sig .tc .vmem S128x128 .f32)
    (a7 : Memref sig .tc .vmem S1024x128 .f32) (a8 : Memref sig .tc .vmem S2048x1024 .f32) (a9 : Memref sig .tc .smem S4 .f32)
    (a10 : Memref sig .tc .vmem S128x128 .f32) (a11 : Memref sig .tc .vmem S128x10240 .f32)
    (X1 : Vec F S128x5120 .f32) (X2 X3 X4 X5 X6 : Vec F S128x128 .f32) (X7 : Vec F S1024x128 .f32) (X8 : Vec F S2048x1024 .f32)
    (S : Vec F S4 .f32) (C : Vec F S128x128 .f32) (Z : Vec F S128x10240 .f32) : sProp 𝕄 :=
  iprop(owns (c : Thread nD τ) a1 fullShare X1 ∗ owns (c : Thread nD τ) a2 fullShare X2 ∗ owns (c : Thread nD τ) a3 fullShare X3
    ∗ owns (c : Thread nD τ) a4 fullShare X4 ∗ owns (c : Thread nD τ) a5 fullShare X5 ∗ owns (c : Thread nD τ) a6 fullShare X6
    ∗ owns (c : Thread nD τ) a7 fullShare X7 ∗ owns (c : Thread nD τ) a8 fullShare X8 ∗ owns (c : Thread nD τ) a9 fullShare S
    ∗ owns (c : Thread nD τ) a10 fullShare C ∗ owns (c : Thread nD τ) a11 fullShare Z)

/-- The first word of the table, and so on. -/
abbrev cell (k : Fin 4) (S : Vec F S4 .f32) : Elt F .f32 := S (ix1 (n := 4) k)

section Cases

variable (c : Dev nD) (i : grid0.Coords)
   (a1 : Memref sig .tc .vmem S128x5120 .f32) (w1 : a1.IsWhole) (a2 : Memref sig .tc .vmem S128x128 .f32) (w2 : a2.IsWhole)
   (a3 : Memref sig .tc .vmem S128x128 .f32) (w3 : a3.IsWhole) (a4 : Memref sig .tc .vmem S128x128 .f32) (w4 : a4.IsWhole)
   (a5 : Memref sig .tc .vmem S128x128 .f32) (w5 : a5.IsWhole) (a6 : Memref sig .tc .vmem S128x128 .f32) (w6 : a6.IsWhole)
   (a7 : Memref sig .tc .vmem S1024x128 .f32) (w7 : a7.IsWhole) (a8 : Memref sig .tc .vmem S2048x1024 .f32) (w8 : a8.IsWhole)
   (a9 : Memref sig .tc .smem S4 .f32) (w9 : a9.IsWhole) (a10 : Memref sig .tc .vmem S128x128 .f32) (w10 : a10.IsWhole)
   (a11 : Memref sig .tc .vmem S128x10240 .f32) (w11 : a11.IsWhole)
   (X1 : Vec F S128x5120 .f32) (X2 X3 X4 X5 X6 : Vec F S128x128 .f32) (X7 : Vec F S1024x128 .f32) (X8 : Vec F S2048x1024 .f32)
   (S : Vec F S4 .f32) (C : Vec F S128x128 .f32) (Z : Vec F S128x10240 .f32)

set_option maxHeartbeats 1600000 in
/-- The first point: the sums start from zero, the small matrix is built, the first block of z is stored and summed. -/
theorem sound_A (h1 : cond1 i) (h2 : k0_cond2 i = 1#1) (h3 : ¬ cond3 i) (h4 : ¬ k0_cond4 i = 1#1) (Q : PUnit → sProp 𝕄) :
    iprop(heldAll c a1 a2 a3 a4 a5 a6 a7 a8 a9 a10 a11 X1 X2 X3 X4 X5 X6 X7 X8 S C Z
        ∗ (heldAll c a1 a2 a3 a4 a5 a6 a7 a8 a9 a10 a11 X1 X2 X3 X4 X5 X6 X7 X8
          (setCell 1 (k0_pay6 i X2 X1 (FloatOps.ofBits .f32 0x00000000#32)) (setCell 0 (k0_pay5 i X2 X1 (FloatOps.ofBits .f32 0x00000000#32)) (setCell 1 (FloatOps.ofBits .f32 0x00000000#32) (setCell 0 (FloatOps.ofBits .f32 0x00000000#32) S))))
          (k0_pay1 X3 X3 X4 X5) (putZ i h2 Z (k0_pay3 X2 X1)) -∗ Q ⟨⟩))
    ⊢ wp frame (wpE (defs₀ (F := F)) Variants.none c none) Set.univ
        (cc0__fused_kernel i a1 w1 a2 w2 a3 w3 a4 w4 a5 w5 a6 w6 a7 w7 a8 w8 a9 w9 a10 w10 a11 w11) Q := by
  simp only [cc0__fused_kernel_eq_skeleton]; unfold cc0__fused_kernel_skel
  unfold heldAll owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, HQ⟩
  simp only [smemLoad, smemLoadElt, Prog.lift, Prog.bind_op, Prog.bind_ret, Prog.pure_eq_ret, Prog.bind_assoc]
  sl_exec
  sl_step
  subst e1 e2 e3 e4 e5 e6 e7 e8 e9 e10 e11
  iapply HQ
  simp only [ld_m, ld_x, ld_l, ld_cell _ (by decide : 0 < 4), ld_cell _ (by decide : 1 < 4), ld_cell _ (by decide : 2 < 4), ld_cell _ (by decide : 3 < 4)]
  isplitl [H1]
  · iexists _; isplitr [H1]; swap
    · iexact H1
    · ipureintro
      rfl
  isplitl [H2]
  · iexists _; isplitr [H2]; swap
    · iexact H2
    · ipureintro
      rfl
  isplitl [H3]
  · iexists _; isplitr [H3]; swap
    · iexact H3
    · ipureintro
      rfl
  isplitl [H4]
  · iexists _; isplitr [H4]; swap
    · iexact H4
    · ipureintro
      rfl
  isplitl [H5]
  · iexists _; isplitr [H5]; swap
    · iexact H5
    · ipureintro
      rfl
  isplitl [H6]
  · iexists _; isplitr [H6]; swap
    · iexact H6
    · ipureintro
      rfl
  isplitl [H7]
  · iexists _; isplitr [H7]; swap
    · iexact H7
    · ipureintro
      rfl
  isplitl [H8]
  · iexists _; isplitr [H8]; swap
    · iexact H8
    · ipureintro
      rfl
  isplitl [H9]
  · iexists _; isplitr [H9]; swap
    · iexact H9
    · ipureintro
      simp only [read_writes_overlay, read_writes_nil]
      exact (overlay_cell 1 _ _ _).trans (congrArg (setCell 1 _) ((overlay_cell 0 _ _ _).trans (congrArg (setCell 0 _) ((overlay_cell 1 _ _ _).trans (congrArg (setCell 1 _) (overlay_cell 0 _ _ _))))))
  isplitl [H10]
  · iexists _; isplitr [H10]; swap
    · iexact H10
    · ipureintro
      simp only [read_writes_overlay]
      exact st_m _ _ _
  · iexists _; isplitr [H11]; swap
    · iexact H11
    · ipureintro
      simp only [read_writes_overlay, read_writes_nil]

set_option maxHeartbeats 1600000 in
/-- The second point: the second block of z is stored and summed. -/
theorem sound_B (h1 : ¬ cond1 i) (h2 : k0_cond2 i = 1#1) (h3 : ¬ cond3 i) (h4 : ¬ k0_cond4 i = 1#1) (Q : PUnit → sProp 𝕄) :
    iprop(heldAll c a1 a2 a3 a4 a5 a6 a7 a8 a9 a10 a11 X1 X2 X3 X4 X5 X6 X7 X8 S C Z
        ∗ (heldAll c a1 a2 a3 a4 a5 a6 a7 a8 a9 a10 a11 X1 X2 X3 X4 X5 X6 X7 X8
          (setCell 1 (k0_pay6 i X2 X1 (cell 1 S)) (setCell 0 (k0_pay5 i X2 X1 (cell 0 S)) S)) C (putZ i h2 Z (k0_pay3 X2 X1)) -∗ Q ⟨⟩))
    ⊢ wp frame (wpE (defs₀ (F := F)) Variants.none c none) Set.univ
        (cc0__fused_kernel i a1 w1 a2 w2 a3 w3 a4 w4 a5 w5 a6 w6 a7 w7 a8 w8 a9 w9 a10 w10 a11 w11) Q := by
  simp only [cc0__fused_kernel_eq_skeleton]; unfold cc0__fused_kernel_skel
  unfold heldAll owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, HQ⟩
  simp only [smemLoad, smemLoadElt, Prog.lift, Prog.bind_op, Prog.bind_ret, Prog.pure_eq_ret, Prog.bind_assoc]
  sl_exec
  sl_step
  subst e1 e2 e3 e4 e5 e6 e7 e8 e9 e10 e11
  iapply HQ
  simp only [ld_m, ld_x, ld_l, ld_cell _ (by decide : 0 < 4), ld_cell _ (by decide : 1 < 4), ld_cell _ (by decide : 2 < 4), ld_cell _ (by decide : 3 < 4)]
  isplitl [H1]
  · iexists _; isplitr [H1]; swap
    · iexact H1
    · ipureintro
      rfl
  isplitl [H2]
  · iexists _; isplitr [H2]; swap
    · iexact H2
    · ipureintro
      rfl
  isplitl [H3]
  · iexists _; isplitr [H3]; swap
    · iexact H3
    · ipureintro
      rfl
  isplitl [H4]
  · iexists _; isplitr [H4]; swap
    · iexact H4
    · ipureintro
      rfl
  isplitl [H5]
  · iexists _; isplitr [H5]; swap
    · iexact H5
    · ipureintro
      rfl
  isplitl [H6]
  · iexists _; isplitr [H6]; swap
    · iexact H6
    · ipureintro
      rfl
  isplitl [H7]
  · iexists _; isplitr [H7]; swap
    · iexact H7
    · ipureintro
      rfl
  isplitl [H8]
  · iexists _; isplitr [H8]; swap
    · iexact H8
    · ipureintro
      rfl
  isplitl [H9]
  · iexists _; isplitr [H9]; swap
    · iexact H9
    · ipureintro
      simp only [read_writes_overlay, read_writes_nil]
      exact (overlay_cell 1 _ _ _).trans (congrArg₂ (setCell 1) (congrArg (k0_pay6 i _ _) (ld_cell 1 (by decide) _ _ _ _)) (overlay_cell 0 _ _ _))
  isplitl [H10]
  · iexists _; isplitr [H10]; swap
    · iexact H10
    · ipureintro
      rfl
  · iexists _; isplitr [H11]; swap
    · iexact H11
    · ipureintro
      simp only [read_writes_overlay, read_writes_nil]

set_option maxHeartbeats 1600000 in
/-- The third point: mean and reciprocal deviation are set from the sums, and the first output block is computed. -/
theorem sound_C (h1 : ¬ cond1 i) (h2 : ¬ k0_cond2 i = 1#1) (h3 : cond3 i) (h4 : k0_cond4 i = 1#1) (Q : PUnit → sProp 𝕄) :
    iprop(heldAll c a1 a2 a3 a4 a5 a6 a7 a8 a9 a10 a11 X1 X2 X3 X4 X5 X6 X7 X8 S C Z
        ∗ (heldAll c a1 a2 a3 a4 a5 a6 a7 a8 a9 a10 a11 X1 X2 X3 X4 X5 X6 X7
          (k0_pay9 (getZ i h4 Z) (k0_pay7 (cell 0 S)) (k0_pay8 (cell 0 S) (cell 1 S)) C X6 X7)
          (setCell 3 (k0_pay8 (cell 0 S) (cell 1 S)) (setCell 2 (k0_pay7 (cell 0 S)) S)) C Z -∗ Q ⟨⟩))
    ⊢ wp frame (wpE (defs₀ (F := F)) Variants.none c none) Set.univ
        (cc0__fused_kernel i a1 w1 a2 w2 a3 w3 a4 w4 a5 w5 a6 w6 a7 w7 a8 w8 a9 w9 a10 w10 a11 w11) Q := by
  simp only [cc0__fused_kernel_eq_skeleton]; unfold cc0__fused_kernel_skel; simp only [k0_part1_eq_skeleton]; unfold k0_part1_skel
  unfold heldAll owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, HQ⟩
  simp only [smemLoad, smemLoadElt, Prog.lift, Prog.bind_op, Prog.bind_ret, Prog.pure_eq_ret, Prog.bind_assoc]
  sl_exec
  sl_step
  subst e1 e2 e3 e4 e5 e6 e7 e8 e9 e10 e11
  iapply HQ
  simp only [ld_m, ld_x, ld_l, ld_cell _ (by decide : 0 < 4), ld_cell _ (by decide : 1 < 4), ld_cell _ (by decide : 2 < 4), ld_cell _ (by decide : 3 < 4)]
  isplitl [H1]
  · iexists _; isplitr [H1]; swap
    · iexact H1
    · ipureintro
      rfl
  isplitl [H2]
  · iexists _; isplitr [H2]; swap
    · iexact H2
    · ipureintro
      rfl
  isplitl [H3]
  · iexists _; isplitr [H3]; swap
    · iexact H3
    · ipureintro
      rfl
  isplitl [H4]
  · iexists _; isplitr [H4]; swap
    · iexact H4
    · ipureintro
      rfl
  isplitl [H5]
  · iexists _; isplitr [H5]; swap
    · iexact H5
    · ipureintro
      rfl
  isplitl [H6]
  · iexists _; isplitr [H6]; swap
    · iexact H6
    · ipureintro
      rfl
  isplitl [H7]
  · iexists _; isplitr [H7]; swap
    · iexact H7
    · ipureintro
      rfl
  isplitl [H8]
  · iexists _; isplitr [H8]; swap
    · iexact H8
    · ipureintro
      simp only [read_writes_overlay]
      exact st_o _ _ _
  isplitl [H9]
  · iexists _; isplitr [H9]; swap
    · iexact H9
    · ipureintro
      simp only [read_writes_overlay, read_writes_nil]
      exact (overlay_cell 3 _ _ _).trans (congrArg (setCell 3 _) (overlay_cell 2 _ _ _))
  isplitl [H10]
  · iexists _; isplitr [H10]; swap
    · iexact H10
    · ipureintro
      rfl
  · iexists _; isplitr [H11]; swap
    · iexact H11
    · ipureintro
      rfl

set_option maxHeartbeats 1600000 in
/-- The later points: one more output block is computed. -/
theorem sound_D (h1 : ¬ cond1 i) (h2 : ¬ k0_cond2 i = 1#1) (h3 : ¬ cond3 i) (h4 : k0_cond4 i = 1#1) (Q : PUnit → sProp 𝕄) :
    iprop(heldAll c a1 a2 a3 a4 a5 a6 a7 a8 a9 a10 a11 X1 X2 X3 X4 X5 X6 X7 X8 S C Z
        ∗ (heldAll c a1 a2 a3 a4 a5 a6 a7 a8 a9 a10 a11 X1 X2 X3 X4 X5 X6 X7
          (k0_pay9 (getZ i h4 Z) (cell 2 S) (cell 3 S) C X6 X7) S C Z -∗ Q ⟨⟩))
    ⊢ wp frame (wpE (defs₀ (F := F)) Variants.none c none) Set.univ
        (cc0__fused_kernel i a1 w1 a2 w2 a3 w3 a4 w4 a5 w5 a6 w6 a7 w7 a8 w8 a9 w9 a10 w10 a11 w11) Q := by
  simp only [cc0__fused_kernel_eq_skeleton]; unfold cc0__fused_kernel_skel; simp only [k0_part1_eq_skeleton]; unfold k0_part1_skel
  unfold heldAll owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, HQ⟩
  simp only [smemLoad, smemLoadElt, Prog.lift, Prog.bind_op, Prog.bind_ret, Prog.pure_eq_ret, Prog.bind_assoc]
  sl_exec
  sl_step
  subst e1 e2 e3 e4 e5 e6 e7 e8 e9 e10 e11
  iapply HQ
  simp only [ld_m, ld_x, ld_l, ld_cell _ (by decide : 0 < 4), ld_cell _ (by decide : 1 < 4), ld_cell _ (by decide : 2 < 4), ld_cell _ (by decide : 3 < 4)]
  isplitl [H1]
  · iexists _; isplitr [H1]; swap
    · iexact H1
    · ipureintro
      rfl
  isplitl [H2]
  · iexists _; isplitr [H2]; swap
    · iexact H2
    · ipureintro
      rfl
  isplitl [H3]
  · iexists _; isplitr [H3]; swap
    · iexact H3
    · ipureintro
      rfl
  isplitl [H4]
  · iexists _; isplitr [H4]; swap
    · iexact H4
    · ipureintro
      rfl
  isplitl [H5]
  · iexists _; isplitr [H5]; swap
    · iexact H5
    · ipureintro
      rfl
  isplitl [H6]
  · iexists _; isplitr [H6]; swap
    · iexact H6
    · ipureintro
      rfl
  isplitl [H7]
  · iexists _; isplitr [H7]; swap
    · iexact H7
    · ipureintro
      rfl
  isplitl [H8]
  · iexists _; isplitr [H8]; swap
    · iexact H8
    · ipureintro
      simp only [read_writes_overlay]
      exact st_o _ _ _
  isplitl [H9]
  · iexists _; isplitr [H9]; swap
    · iexact H9
    · ipureintro
      rfl
  isplitl [H10]
  · iexists _; isplitr [H10]; swap
    · iexact H10
    · ipureintro
      rfl
  · iexists _; isplitr [H11]; swap
    · iexact H11
    · ipureintro
      rfl

end Cases

end Cert.KernelIdeal.Hand

end
-- ==== Proof.KernelIdeal.Run.lean ====
module

public import proofs.«01_k».proof.Proof.KernelIdeal.Body
public import Idealize.ShloMosaic.Lib.Pipeline.FrameBody
public import Idealize.ShloMosaic.Lib.Pipeline.ArrRel

/-!
The kernel's run from launch to end, for a caller who says what is to be remembered: a property `Inv` of the scratch
buffers before each grid point, and a property `R7` of what the output buffer holds when it is written back. If the
body's four cases keep both (`Keeps`), the whole program runs to the end, the inputs stay as they were, and every
block written back has the property `R7`.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1)
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions at each point -/

theorem at_first : cond1 (grid0.coords t0_0) ∧ k0_cond2 (grid0.coords t0_0) = 1#1 ∧ ¬ cond3 (grid0.coords t0_0) ∧ ¬ k0_cond4 (grid0.coords t0_0) = 1#1 := by
  decide +kernel
theorem at_second : ¬ cond1 (grid0.coords t0_1) ∧ k0_cond2 (grid0.coords t0_1) = 1#1 ∧ ¬ cond3 (grid0.coords t0_1) ∧ ¬ k0_cond4 (grid0.coords t0_1) = 1#1 := by
  decide +kernel
theorem at_third : ¬ cond1 (grid0.coords t0_2) ∧ ¬ k0_cond2 (grid0.coords t0_2) = 1#1 ∧ cond3 (grid0.coords t0_2) ∧ k0_cond4 (grid0.coords t0_2) = 1#1 := by
  decide +kernel
theorem at_later : ∀ t : Fin grid0.N, 3 ≤ t.val → ¬ cond1 (grid0.coords t) ∧ ¬ k0_cond2 (grid0.coords t) = 1#1 ∧ ¬ cond3 (grid0.coords t) ∧ k0_cond4 (grid0.coords t) = 1#1 := by
  decide +kernel

/-! ## What the body finds in the input buffers -/

/-- The block of the features at point `t` as the buffer holds it: the array's columns that exist, and `d` beyond them. -/
def xIn (c : Dev nD) (t : Fin cfg0.N) (d : Vec F S128x5120 .f32) : Vec F S128x5120 .f32 :=
  (cfg0.win 0).fill (cfg0.grid.coords t) d (iblk m c 0 t)

/-- The opening matrix, as each point finds it. -/
def openIn (c : Dev nD) (t : Fin cfg0.N) : Vec F S128x128 .f32 := iblk m c 1 t
/-- The closing matrix. -/
def closeIn (c : Dev nD) (t : Fin cfg0.N) : Vec F S128x128 .f32 := iblk m c 2 t
/-- The convolution's matrix. -/
def convIn (c : Dev nD) (t : Fin cfg0.N) : Vec F S128x128 .f32 := iblk m c 3 t
/-- The second opening matrix. -/
def open2In (c : Dev nD) (t : Fin cfg0.N) : Vec F S128x128 .f32 := iblk m c 4 t
/-- The first dense layer's matrix. -/
def lin1In (c : Dev nD) (t : Fin cfg0.N) : Vec F S128x128 .f32 := iblk m c 5 t
/-- The second dense layer's matrix. -/
def lin2In (c : Dev nD) (t : Fin cfg0.N) : Vec F S1024x128 .f32 := iblk m c 6 t

/-- What is remembered survives the body: `Inv t` of the scratch buffers before point `t` gives `Inv (t + 1)` of what
    the body leaves, and `R7 t` of the output block it stores, from the third point on. -/
structure Keeps (c : Dev nD) (Inv : ℕ → Vec F S4 .f32 → Vec F S128x128 .f32 → Vec F S128x10240 .f32 → Prop)
    (R7 : Fin cfg0.N → Vec F S2048x1024 .f32 → Prop) : Prop where
  start : ∀ S C Z, Inv 0 S C Z
  first : ∀ d S C Z, Inv 0 S C Z → Inv 1
    (setCell 1 (k0_pay6 (grid0.coords t0_0) (openIn m c t0_0) (xIn m c t0_0 d) (FloatOps.ofBits .f32 0x00000000#32))
      (setCell 0 (k0_pay5 (grid0.coords t0_0) (openIn m c t0_0) (xIn m c t0_0 d) (FloatOps.ofBits .f32 0x00000000#32))
        (setCell 1 (FloatOps.ofBits .f32 0x00000000#32) (setCell 0 (FloatOps.ofBits .f32 0x00000000#32) S))))
    (k0_pay1 (closeIn m c t0_0) (closeIn m c t0_0) (convIn m c t0_0) (open2In m c t0_0))
    (putZ (grid0.coords t0_0) at_first.2.1 Z (k0_pay3 (openIn m c t0_0) (xIn m c t0_0 d)))
  second : ∀ d S C Z, Inv 1 S C Z → Inv 2
    (setCell 1 (k0_pay6 (grid0.coords t0_1) (openIn m c t0_1) (xIn m c t0_1 d) (cell 1 S))
      (setCell 0 (k0_pay5 (grid0.coords t0_1) (openIn m c t0_1) (xIn m c t0_1 d) (cell 0 S)) S))
    C (putZ (grid0.coords t0_1) at_second.2.1 Z (k0_pay3 (openIn m c t0_1) (xIn m c t0_1 d)))
  third : ∀ S C Z, Inv 2 S C Z →
    Inv 3 (setCell 3 (k0_pay8 (cell 0 S) (cell 1 S)) (setCell 2 (k0_pay7 (cell 0 S)) S)) C Z
    ∧ R7 t0_2 (k0_pay9 (getZ (grid0.coords t0_2) at_third.2.2.2 Z) (k0_pay7 (cell 0 S)) (k0_pay8 (cell 0 S) (cell 1 S)) C
        (lin1In m c t0_2) (lin2In m c t0_2))
  later : ∀ (t : Fin grid0.N) (ht : 3 ≤ t.val) S C Z, Inv t.val S C Z →
    Inv (t.val + 1) S C Z
    ∧ R7 t (k0_pay9 (getZ (grid0.coords t) (at_later t ht).2.2.2 Z) (cell 2 S) (cell 3 S) C (lin1In m c t) (lin2In m c t))

section Run

variable (Inv : ℕ → Vec F S4 .f32 → Vec F S128x128 .f32 → Vec F S128x10240 .f32 → Prop)
    (R7 : Fin cfg0.N → Vec F S2048x1024 .f32 → Prop)

/-- The scratch buffers before point `n`: each held whole, at contents with the property `Inv n`; and the generator's register. -/
def scratchAt (c : Dev nD) (n : ℕ) : sProp 𝕄 :=
  iprop(∃ (S : Vec F S4 .f32) (C : Vec F S128x128 .f32) (Z : Vec F S128x10240 .f32), ⌜Inv n S C Z⌝
    ∗ owns (c : Thread nD τ) (Memref.whole cc0_scratch0) fullShare S
    ∗ owns (c : Thread nD τ) (Memref.whole cc0_scratch1) fullShare C
    ∗ owns (c : Thread nD τ) (Memref.whole cc0_scratch2) fullShare Z
    ∗ (∃ r, prngReg (Ix := Unit) (Val := Elt F) (Name := ℕ) (U := UR sig nD τ) (Lvl := ℕ) c r))

/-- The proof data: inputs left in place, the output buffer with the property `R7` from the third point on. -/
def rdat (c : Dev nD) : RDat τ (Elt F) Unit ℕ (UR sig nD τ) ℕ cfg0 c where
  A w := V m c (Pipeline.arrRef spec0 w)
  after := fun | 0 => fun _ Y X => X = Y | 1 => fun _ Y X => X = Y | 2 => fun _ Y X => X = Y | 3 => fun _ Y X => X = Y
               | 4 => fun _ Y X => X = Y | 5 => fun _ Y X => X = Y | 6 => fun _ Y X => X = Y
               | 7 => fun t _ X => 2 ≤ t.val → R7 t X
               | ⟨_ + 8, h⟩ => absurd h (Nat.not_lt.2 (Nat.le_add_left _ _))
  Φ t := scratchAt Inv c t.val
  q _ := fullShare
  owed _ := 0

theorem clip_0 : ∀ t t' : Fin grid0.N, win0_0.index t = win0_0.index t' → win0_0.clip (grid0.coords t) = win0_0.clip (grid0.coords t') := by
  decide +kernel

theorem found_x (c : Dev nD) (t : Fin cfg0.N) (Y : Vec F S128x5120 .f32) (h : (rdat m Inv R7 c).Finds 0 t Y) : ∃ d, Y = xIn m c t d :=
  (rdat m Inv R7 c).finds_in_eq_fetched 0 rfl (clip_0) (fun _ _ _ h => h) t Y h
theorem found_open (c : Dev nD) (t : Fin cfg0.N) (Y : Vec F S128x128 .f32) (h : (rdat m Inv R7 c).Finds 1 t Y) : Y = openIn m c t :=
  ((rdat m Inv R7 c).finds_in_eq_fetched 1 rfl (fun _ _ _ => rfl) (fun _ _ _ h => h) t Y h).choose_spec
theorem found_close (c : Dev nD) (t : Fin cfg0.N) (Y : Vec F S128x128 .f32) (h : (rdat m Inv R7 c).Finds 2 t Y) : Y = closeIn m c t :=
  ((rdat m Inv R7 c).finds_in_eq_fetched 2 rfl (fun _ _ _ => rfl) (fun _ _ _ h => h) t Y h).choose_spec
theorem found_conv (c : Dev nD) (t : Fin cfg0.N) (Y : Vec F S128x128 .f32) (h : (rdat m Inv R7 c).Finds 3 t Y) : Y = convIn m c t :=
  ((rdat m Inv R7 c).finds_in_eq_fetched 3 rfl (fun _ _ _ => rfl) (fun _ _ _ h => h) t Y h).choose_spec
theorem found_open2 (c : Dev nD) (t : Fin cfg0.N) (Y : Vec F S128x128 .f32) (h : (rdat m Inv R7 c).Finds 4 t Y) : Y = open2In m c t :=
  ((rdat m Inv R7 c).finds_in_eq_fetched 4 rfl (fun _ _ _ => rfl) (fun _ _ _ h => h) t Y h).choose_spec
theorem found_lin1 (c : Dev nD) (t : Fin cfg0.N) (Y : Vec F S128x128 .f32) (h : (rdat m Inv R7 c).Finds 5 t Y) : Y = lin1In m c t :=
  ((rdat m Inv R7 c).finds_in_eq_fetched 5 rfl (fun _ _ _ => rfl) (fun _ _ _ h => h) t Y h).choose_spec
theorem found_lin2 (c : Dev nD) (t : Fin cfg0.N) (Y : Vec F S1024x128 .f32) (h : (rdat m Inv R7 c).Finds 6 t Y) : Y = lin2In m c t :=
  ((rdat m Inv R7 c).finds_in_eq_fetched 6 rfl (fun _ _ _ => rfl) (fun _ _ _ h => h) t Y h).choose_spec

/-- The eleven buffers a point's body runs on. -/
abbrev heldAt (c : Dev nD) (t : Fin cfg0.N) (X1 : Vec F S128x5120 .f32) (X2 X3 X4 X5 X6 : Vec F S128x128 .f32) (X7 : Vec F S1024x128 .f32)
    (X8 : Vec F S2048x1024 .f32) : sProp 𝕄 :=
  iprop(owns (c : Thread nD τ) (st0_0 t) fullShare X1 ∗ owns (c : Thread nD τ) (st0_1 t) fullShare X2 ∗ owns (c : Thread nD τ) (st0_2 t) fullShare X3
    ∗ owns (c : Thread nD τ) (st0_3 t) fullShare X4 ∗ owns (c : Thread nD τ) (st0_4 t) fullShare X5 ∗ owns (c : Thread nD τ) (st0_5 t) fullShare X6
    ∗ owns (c : Thread nD τ) (st0_6 t) fullShare X7 ∗ owns (c : Thread nD τ) (st0_7 t) fullShare X8)

/-- What is remembered, one point on. -/
abbrev heldAfter (c : Dev nD) (t : Fin cfg0.N) (X1 : Vec F S128x5120 .f32) (X2 X3 X4 X5 X6 : Vec F S128x128 .f32) (X7 : Vec F S1024x128 .f32) : sProp 𝕄 :=
  iprop(scratchAt Inv c (t.val + 1) ∗ ∃ X8, ⌜2 ≤ t.val → R7 t X8⌝ ∗ heldAt c t X1 X2 X3 X4 X5 X6 X7 X8)

variable {m Inv R7} in
/-- A case of the body, from its triple: what it leaves has the remembered properties. -/
theorem case_of (c : Dev nD) (t : Fin cfg0.N) (X1 : Vec F S128x5120 .f32) (X2 X3 X4 X5 X6 : Vec F S128x128 .f32) (X7 : Vec F S1024x128 .f32)
    (X8 : Vec F S2048x1024 .f32)
    (N8 : Vec F S4 .f32 → Vec F S128x128 .f32 → Vec F S128x10240 .f32 → Vec F S2048x1024 .f32)
    (NS : Vec F S4 .f32 → Vec F S128x128 .f32 → Vec F S128x10240 .f32 → Vec F S4 .f32)
    (NC : Vec F S4 .f32 → Vec F S128x128 .f32 → Vec F S128x10240 .f32 → Vec F S128x128 .f32)
    (NZ : Vec F S4 .f32 → Vec F S128x128 .f32 → Vec F S128x10240 .f32 → Vec F S128x10240 .f32)
    (hk : ∀ S C Z, Inv t.val S C Z → Inv (t.val + 1) (NS S C Z) (NC S C Z) (NZ S C Z) ∧ (2 ≤ t.val → R7 t (N8 S C Z)))
    (hs : ∀ S C Z (Q : PUnit → sProp 𝕄),
      iprop(heldAll c (st0_0 t) (st0_1 t) (st0_2 t) (st0_3 t) (st0_4 t) (st0_5 t) (st0_6 t) (st0_7 t) (Memref.whole cc0_scratch0) (Memref.whole cc0_scratch1) (Memref.whole cc0_scratch2)
          X1 X2 X3 X4 X5 X6 X7 X8 S C Z
        ∗ (heldAll c (st0_0 t) (st0_1 t) (st0_2 t) (st0_3 t) (st0_4 t) (st0_5 t) (st0_6 t) (st0_7 t) (Memref.whole cc0_scratch0) (Memref.whole cc0_scratch1) (Memref.whole cc0_scratch2)
          X1 X2 X3 X4 X5 X6 X7 (N8 S C Z) (NS S C Z) (NC S C Z) (NZ S C Z) -∗ Q ⟨⟩))
      ⊢ wp frame (wpE (defs₀ (F := F)) Variants.none c none) Set.univ (bodyAt0 t) Q)
    (Q : PUnit → sProp 𝕄) :
    iprop(scratchAt Inv c t.val ∗ heldAt c t X1 X2 X3 X4 X5 X6 X7 X8 ∗ (heldAfter Inv R7 c t X1 X2 X3 X4 X5 X6 X7 -∗ Q ⟨⟩))
    ⊢ wp frame (wpE (defs₀ (F := F)) Variants.none c none) Set.univ (bodyAt0 t) Q := by
  unfold heldAfter scratchAt
  iintro ⟨⟨%S, %C, %Z, %hI, HS, HC, HZ, Hg⟩, ⟨H1, H2, H3, H4, H5, H6, H7, H8⟩, HQ⟩
  iapply (hs S C Z Q)
  isplitl [H1 H2 H3 H4 H5 H6 H7 H8 HS HC HZ]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HC]; · iexact HC
    iexact HZ
  iintro ⟨H1, H2, H3, H4, H5, H6, H7, H8, HS, HC, HZ⟩
  iapply HQ
  isplitl [HS HC HZ Hg]
  · iexists (NS S C Z), (NC S C Z), (NZ S C Z)
    isplitr; · ipureintro; exact (hk S C Z hI).1
    isplitl [HS]; · iexact HS
    isplitl [HC]; · iexact HC
    isplitl [HZ]; · iexact HZ
    iexact Hg
  iexists (N8 S C Z)
  isplitr; · ipureintro; exact (hk S C Z hI).2
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

variable {m Inv R7} in
/-- The body at any point, on the blocks it finds: what is remembered is kept. -/
theorem point_kept (c : Dev nD) (K : Keeps m c Inv R7) (t : Fin cfg0.N) (d : Vec F S128x5120 .f32) (X8 : Vec F S2048x1024 .f32) (Q : PUnit → sProp 𝕄) :
    iprop(scratchAt Inv c t.val ∗ heldAt c t (xIn m c t d) (openIn m c t) (closeIn m c t) (convIn m c t) (open2In m c t) (lin1In m c t) (lin2In m c t) X8
      ∗ (heldAfter Inv R7 c t (xIn m c t d) (openIn m c t) (closeIn m c t) (convIn m c t) (open2In m c t) (lin1In m c t) (lin2In m c t) -∗ Q ⟨⟩))
    ⊢ wp frame (wpE (defs₀ (F := F)) Variants.none c none) Set.univ (bodyAt0 t) Q := by
  by_cases h3 : 3 ≤ t.val
  · exact case_of c t _ _ _ _ _ _ _ X8 _ (fun S _ _ => S) (fun _ C _ => C) (fun _ _ Z => Z)
      (fun S C Z h => ⟨(K.later t h3 S C Z h).1, fun _ => (K.later t h3 S C Z h).2⟩)
      (fun S C Z Q => sound_D c (grid0.coords t) _ _ _ _ _ _ _ _ _ _ _ _ _ _ _ _ _ _ _ _ _ _ _ _ _ _ _ _ _ _ _ _ _
        (at_later t h3).1 (at_later t h3).2.1 (at_later t h3).2.2.1 (at_later t h3).2.2.2 Q) Q
  · have hc : t = t0_0 ∨ t = t0_1 ∨ t = t0_2 := by
      rcases fin_N0 t with h | h | h | h | h | h | h <;> first | exact .inl h | exact .inr (.inl h) | exact .inr (.inr h) | (exfalso; subst h; exact h3 (by decide))
    rcases hc with rfl | rfl | rfl
    · exact case_of c t0_0 _ _ _ _ _ _ _ X8 (fun _ _ _ => X8) _ _ _
        (fun S C Z h => ⟨K.first d S C Z h, fun h2 => absurd h2 (by decide)⟩)
        (fun S C Z Q => sound_A c (grid0.coords t0_0) _ _ _ _ _ _ _ _ _ _ _ _ _ _ _ _ _ _ _ _ _ _ _ _ _ _ _ _ _ _ _ _ _
          at_first.1 at_first.2.1 at_first.2.2.1 at_first.2.2.2 Q) Q
    · exact case_of c t0_1 _ _ _ _ _ _ _ X8 (fun _ _ _ => X8) _ (fun _ C _ => C) _
        (fun S C Z h => ⟨K.second d S C Z h, fun h2 => absurd h2 (by decide)⟩)
        (fun S C Z Q => sound_B c (grid0.coords t0_1) _ _ _ _ _ _ _ _ _ _ _ _ _ _ _ _ _ _ _ _ _ _ _ _ _ _ _ _ _ _ _ _ _
          at_second.1 at_second.2.1 at_second.2.2.1 at_second.2.2.2 Q) Q
    · exact case_of c t0_2 _ _ _ _ _ _ _ X8 _ _ (fun _ C _ => C) (fun _ _ Z => Z)
        (fun S C Z h => ⟨(K.third S C Z h).1, fun _ => (K.third S C Z h).2⟩)
        (fun S C Z Q => sound_C c (grid0.coords t0_2) _ _ _ _ _ _ _ _ _ _ _ _ _ _ _ _ _ _ _ _ _ _ _ _ _ _ _ _ _ _ _ _ _
          at_third.1 at_third.2.1 at_third.2.2.1 at_third.2.2.2 Q) Q

/-- The body table's row at a point is the body there. -/
theorem row_at (t : Fin cfg0.N) : defs₀ (F := F) .tc cfg0.body (cfg0.bodyArgs t (cfg0.slots t)) = bodyAt0 t := by
  unfold defs₀; rw [Defs.onTc_tc]

variable {m Inv R7} in
set_option maxHeartbeats 1000000 in
/-- The obligation the run asks of the body, at every point. -/
theorem obligation (c : Dev nD) (K : Keeps m c Inv R7) :
    RDat.BodyObligation (rdat m Inv R7 c) (defs₀ (F := F)) Variants.none () Set.univ := fun t Y hY => by
  obtain ⟨d, h0⟩ := found_x m Inv R7 c t _ (hY 0)
  have h1 := found_open m Inv R7 c t _ (hY 1)
  have h2 := found_close m Inv R7 c t _ (hY 2)
  have h3 := found_conv m Inv R7 c t _ (hY 3)
  have h4 := found_open2 m Inv R7 c t _ (hY 4)
  have h5 := found_lin1 m Inv R7 c t _ (hY 5)
  have h6 := found_lin2 m Inv R7 c t _ (hY 6)
  rw [bigSep_W0, bigSep_W0, row_at, h0, h1, h2, h3, h4, h5, h6]
  refine triple_restated (W := wp frame (wpE (defs₀ (F := F)) Variants.none c none) Set.univ (bodyAt0 t))
    (P := iprop(scratchAt Inv c t.val ∗ (rdat m Inv R7 c).owesAt () t.castSucc
      ∗ heldAt c t (xIn m c t d) (openIn m c t) (closeIn m c t) (convIn m c t) (open2In m c t) (lin1In m c t) (lin2In m c t) (Y 7)))
    (Q := fun _ => iprop((rdat m Inv R7 c).owesAt () t.castSucc
      ∗ heldAfter Inv R7 c t (xIn m c t d) (openIn m c t) (closeIn m c t) (convIn m c t) (open2In m c t) (lin1In m c t) (lin2In m c t))) ?_ rfl .rfl fun _ => ?_
  · iintro ⟨HS, HO, HB⟩
    iapply (point_kept c K t d (Y 7) _)
    isplitl [HS]; · iexact HS
    isplitl [HB]; · iexact HB
    iintro H
    isplitl [HO]; · iexact HO
    iexact H
  · rw [show (rdat m Inv R7 c).Φ t.succ = scratchAt Inv c (t.val + 1) from rfl,
      show (rdat m Inv R7 c).owesAt () t.succ = (rdat m Inv R7 c).owesAt () t.castSucc from rfl]
    iintro ⟨HO, HS, ⟨%X8, %h8, H1, H2, H3, H4, H5, H6, H7, H8⟩⟩
    isplitl [HS]; · iexact HS
    isplitl [HO]; · iexact HO
    isplitl [H1]; · iexists _; isplitr [H1]; swap; · iexact H1
                    · ipureintro; exact rfl
    isplitl [H2]; · iexists _; isplitr [H2]; swap; · iexact H2
                    · ipureintro; exact rfl
    isplitl [H3]; · iexists _; isplitr [H3]; swap; · iexact H3
                    · ipureintro; exact rfl
    isplitl [H4]; · iexists _; isplitr [H4]; swap; · iexact H4
                    · ipureintro; exact rfl
    isplitl [H5]; · iexists _; isplitr [H5]; swap; · iexact H5
                    · ipureintro; exact rfl
    isplitl [H6]; · iexists _; isplitr [H6]; swap; · iexact H6
                    · ipureintro; exact rfl
    isplitl [H7]; · iexists _; isplitr [H7]; swap; · iexact H7
                    · ipureintro; exact rfl
    iexists _; isplitr [H8]; swap; · iexact H8
    · ipureintro; exact h8

variable {Inv} in
/-- The scratch buffers as the launch hands them over satisfy what is remembered at the start. -/
theorem enter (c : Dev nD) (h : ∀ S C Z, Inv 0 S C Z) : (Pipeline.ΦA spec0 c : sProp 𝕄) ⊢ scratchAt Inv c 0 := by
  unfold Pipeline.ΦA scratchAt
  rw [scopedRest0_eq]
  iintro ⟨⟨⟨%C, HC⟩, ⟨%Z, HZ⟩, ⟨%S, HS⟩⟩, Hg⟩
  iexists S, C, Z
  isplitr; · ipureintro; exact h S C Z
  isplitl [HS]; · rw [owns_whole]; iexact HS
  isplitl [HC]; · rw [owns_whole]; iexact HC
  isplitl [HZ]; · rw [owns_whole]; iexact HZ
  iexact Hg

/-- They are handed back at some contents. -/
theorem leave (c : Dev nD) (n : ℕ) : scratchAt (F := F) Inv c n ⊢ Pipeline.ΦA spec0 c := by
  unfold Pipeline.ΦA scratchAt
  rw [scopedRest0_eq]
  simp only [owns_whole]
  iintro ⟨%S, %C, %Z, %h, HS, HC, HZ, Hg⟩
  isplitl [HS HC HZ]
  · isplitl [HC]; · iexists _; iexact HC
    isplitl [HZ]; · iexists _; iexact HZ
    iexists _; iexact HS
  iexact Hg

variable {m Inv R7} in
set_option backward.isDefEq.respectTransparency.types false in
/-- The run: it ends, with every window's array as the proof data say and every semaphore at zero. -/
theorem run (K : ∀ c, Keeps m c Inv R7) :
    θ_run defs (onTc (τ := τ) (main (F := F))) (s₀ m ρ)
      (fun r => RDat.FramePost (cfgs 0) (rdat m Inv R7) (V m) r ∧ r.2.sem = fun _ => 0) :=
  Pipeline.RDat.θ_run_frame_track cfgs (0 : Fin 1) launch0 defs₀ Variants.none (rdat m Inv R7) m ρ main
    (hbody := fun c => obligation c (K c)) (hshare := fun c => (rdat m Inv R7 c).share_full fun _ => rfl)
    (howed := fun _ _ => rfl) (V := V m) (hmain := hmain m Variants.none) (hA := fun _ _ => rfl)
    (hin := fun c => enter c (K c).start) (hout := fun c => leave Inv c _) (Q' := _)

variable {m ρ Inv R7} in
/-- The arguments after the run: each as it was at the launch. -/
theorem args_kept {r : PUnit × MemSt nD τ sig (Elt F)} (h : RDat.FramePost (cfgs 0) (rdat m Inv R7) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (h.arr_in c 1 rfl).trans (V_main_arg2 m c),
   (h.arr_in c 4 rfl).trans (V_main_arg3 m c),
   (h.arr_in c 2 rfl).trans (V_main_arg4 m c),
   ((h c).2 main_arg5 (Pipeline.mem_restRefs_of main_arg5 (by decide) (by decide))).trans (V_main_arg5 m c),
   (h.arr_in c 5 rfl).trans (V_main_arg6 m c),
   ((h c).2 main_arg7 (Pipeline.mem_restRefs_of main_arg7 (by decide) (by decide))).trans (V_main_arg7 m c),
   (h.arr_in c 6 rfl).trans (V_main_arg8 m c),
   ((h c).2 main_arg9 (Pipeline.mem_restRefs_of main_arg9 (by decide) (by decide))).trans (V_main_arg9 m c)⟩

end Run

/-- Remembering nothing is always kept. -/
theorem keeps_nothing (c : Dev nD) : Keeps m c (fun _ _ _ _ => True) (fun _ _ => True) where
  start _ _ _ := trivial
  first _ _ _ _ _ := trivial
  second _ _ _ _ _ := trivial
  third _ _ _ _ := ⟨trivial, trivial⟩
  later _ _ _ _ _ _ := ⟨trivial, trivial⟩

/-- The run remembering nothing: it ends, every argument is as it was, every semaphore is at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨args_kept h.1, h.2⟩) (run ρ (keeps_nothing m))

end Cert.KernelIdeal.Hand

end
-- ==== Proof.Value.Net.lean ====
module

public import Idealize.ShloMosaic.PureOps.Ideal
public import Idealize.ShloMosaic.PureOps.Ideal.Laws

/-!
The network's own formulas, over the extended reals and over plain row and column numbers: the steps that the kernel
and its reference have in common.
-/

@[expose] public section

noncomputable section

namespace Cert.Net

open Idealize.ShloMosaic

/-- The exponential linear unit. -/
def elu (h : EReal) : EReal := if 0 < h then h else Ideal.exp h - 1

/-- A node's 1024 scores, from its 128 features: a dense layer, the exponential linear unit, a second dense layer. -/
def scores (L1 : Fin 128 → Fin 128 → EReal) (L2 : Fin 1024 → Fin 128 → EReal) (y : Fin 128 → EReal) (j : Fin 1024) : EReal :=
  ∑ o : Fin 128, elu (∑ i : Fin 128, L1 o i * y i) * L2 j o

/-- The greatest score. -/
def top (s : Fin 1024 → EReal) : EReal := (Finset.univ : Finset (Fin 1024)).fold max ⊥ s

/-- The scores' logarithmic softmax, the greatest score subtracted first. -/
def logSoftmax (s : Fin 1024 → EReal) (j : Fin 1024) : EReal :=
  (s j - top s) - Ideal.log (∑ k : Fin 1024, Ideal.exp (s k - top s))

/-- What the network answers for a node, from the node's features after the convolution. -/
def answer (L1 : Fin 128 → Fin 128 → EReal) (L2 : Fin 1024 → Fin 128 → EReal) (y : Fin 128 → EReal) : Fin 1024 → EReal :=
  logSoftmax (scores L1 L2 y)

/-! ## The statistics and the folded matrix, as the kernel forms them -/

/-- A product of the matrix `A` with the columns `X`. -/
def mulCols {N : ℕ} (A : Fin 128 → Fin 128 → EReal) (X : Fin 128 → Fin N → EReal) (o : Fin 128) (n : Fin N) : EReal :=
  ∑ k : Fin 128, A o k * X k n

/-- The sum of all entries. -/
def total (f : Fin 128 → Fin 10000 → EReal) : EReal := ∑ o : Fin 128, ∑ n : Fin 10000, f o n

/-- The number of entries, 1280000, as the programs write it. -/
def count : EReal := Ideal.ofBits .f32 0x499C4000#32
/-- The small number added to the variance, as the programs write it. -/
def eps : EReal := Ideal.ofBits .f32 0x3727C5AC#32

/-- The mean of all entries. -/
def mean (z : Fin 128 → Fin 10000 → EReal) : EReal := Ideal.div (total z) count
/-- The reciprocal deviation from a sum and a sum of squares: mean of squares less square of mean. -/
def rstdOf (s q : EReal) : EReal := Ideal.rsqrt (Ideal.div q count - Ideal.div s count * Ideal.div s count + eps)
/-- The reciprocal deviation of all entries. -/
def rstd (z : Fin 128 → Fin 10000 → EReal) : EReal := rstdOf (total z) (total fun o n => z o n * z o n)

/-- The coefficient of the closing matrix in the folded matrix. -/
def scaleX : EReal := ((2520227950547453266280397952877 / 2535301200456458802993406410752 : ℝ) : EReal)
/-- The coefficient of the closing matrix times the convolution's. -/
def scaleConv : EReal := ((-328952368924001807490233205275 / 81129638414606681695789005144064 : ℝ) : EReal)

/-- The closing matrix, the convolution and the second opening matrix folded into one matrix. -/
def folded (Kc Wc K2 : Fin 128 → Fin 128 → EReal) (o i : Fin 128) : EReal :=
  ∑ k : Fin 128, (scaleX * Kc o k + scaleConv * ∑ l : Fin 128, Kc o l * Wc l k) * K2 k i

/-- A node's 128 features as the kernel computes them: the folded matrix on the hyperbolic tangents of the normalised entries. -/
def features {N : ℕ} (C : Fin 128 → Fin 128 → EReal) (z : Fin 128 → Fin N → EReal) (a b : EReal) (n : Fin N) (o : Fin 128) : EReal :=
  ∑ i : Fin 128, C o i * Ideal.tanh ((z i n - a) * b)

/-! ## The same, as the reference forms it -/

/-- The deviation: the root of the mean of the squared distances from the mean, with the small number added. -/
def deviation (z : Fin 128 → Fin 10000 → EReal) : EReal :=
  Ideal.sqrt (Ideal.div (total fun o n => (z o n - mean z) * (z o n - mean z)) count + eps)

/-- The hyperbolic tangent of the normalised entries. -/
def squashed (z : Fin 128 → Fin 10000 → EReal) (o : Fin 128) (n : Fin 10000) : EReal :=
  Ideal.tanh (Ideal.div (z o n - mean z) (deviation z))

/-- The five literals of the update, as the reference writes them: 2, the step, 1 less the step, and the two shares of the convolution. -/
def two : EReal := Ideal.ofBits .f32 0x40000000#32
@[inherit_doc two] def step : EReal := Ideal.ofBits .f32 0x3DCCCCCD#32
@[inherit_doc two] def rest : EReal := Ideal.ofBits .f32 0x3F666666#32
@[inherit_doc two] def share0 : EReal := Ideal.ofBits .f32 0x3F183370#32
@[inherit_doc two] def share1 : EReal := Ideal.ofBits .f32 0x3ECF991F#32

/-- The mixture of the two copies of the features. -/
def mixed (u : EReal) : EReal := rest * u + step * u

/-- One update of the features. -/
def updated (Wc : Fin 128 → Fin 128 → EReal) (u : Fin 128 → Fin 10000 → EReal) (o : Fin 128) (n : Fin 10000) : EReal :=
  two * u o n - u o n - step * (step * (share0 * mixed (u o n) + share1 * ∑ l : Fin 128, Wc o l * mixed (u l n)))

/-- A node's features as the reference computes them. -/
def refFeatures (K2 Kc Wc : Fin 128 → Fin 128 → EReal) (z : Fin 128 → Fin 10000 → EReal) (n : Fin 10000) (o : Fin 128) : EReal :=
  mulCols Kc (updated Wc (mulCols K2 (squashed z))) o n

end Cert.Net

end
-- ==== Proof.Value.Payload.lean ====
module

public import proofs.«01_k».proof.Proof.Gen.KernelIdeal.Skeleton
public import proofs.«01_k».proof.Proof.Value.Net
public import Idealize.ShloMosaic.Lib.Pointwise
public import Idealize.ShloMosaic.Lib.WordCmp
public import Idealize.ShloMosaic.PureOps.IdealRules

/-!
What one grid point of the kernel computes, read at an index over the extended reals.
-/

@[expose] public section

set_option maxRecDepth 16384

noncomputable section

namespace Cert.KernelIdeal.Hand

open Cert.KernelIdeal Cert.KernelIdeal.Gen
open Idealize.ShloMosaic Cert.Net

/-- A two-axis array of extended reals as a function of row and column. -/
def grid {a b : ℕ} (f : (⟨2, ![a, b]⟩ : Shape).Idx → EReal) (i : Fin a) (j : Fin b) : EReal := f (ix2 i j)

/-- A block of the opening product. -/
theorem pay2_at (A : Vec Ideal S128x128 .f32) (X : Vec Ideal S128x5120 .f32) (o : Fin 128) (n : Fin 5120) :
    k0_pay2 (F := Ideal) A X (ix2 o n) = mulCols (grid A) (grid X) o n := by
  unfold mulCols grid
  pointwise [k0_pay2]

/-- What is stored of it. -/
theorem pay3_at (A : Vec Ideal S128x128 .f32) (X : Vec Ideal S128x5120 .f32) (o : Fin 128) (n : Fin 5120) :
    k0_pay3 (F := Ideal) A X (ix2 o n) = mulCols (grid A) (grid X) o n := by
  unfold mulCols grid
  pointwise [k0_pay3, k0_pay2]

/-- The folded matrix. -/
theorem pay1_at (Kc Wc K2 : Vec Ideal S128x128 .f32) (o i : Fin 128) :
    k0_pay1 (F := Ideal) Kc Kc Wc K2 (ix2 o i) = folded (grid Kc) (grid Wc) (grid K2) o i := by
  have e1 : Named.named (F := Ideal) (φ := .f32) κ "scale_x" 0x3F7E7A5E#32 = scaleX := IdealRules.named_const.ideal_named_scalar _ _ _ _ rfl
  have e2 : Named.named (F := Ideal) (φ := .f32) κ "scale_conv" 0xBB84DCE1#32 = scaleConv := IdealRules.named_const.ideal_named_scalar _ _ _ _ rfl
  unfold folded grid
  pointwise [k0_pay1]
  rw [← e1, ← e2]

/-- The block with the columns beyond the array's last set to zero: the first block has none. -/
theorem pay4_first (i : grid0.Coords) (hi : (i 0).val = 0) (A : Vec Ideal S128x128 .f32) (X : Vec Ideal S128x5120 .f32) (o : Fin 128) (n : Fin 5120) :
    k0_pay4 (F := Ideal) i A X (ix2 o n) = mulCols (grid A) (grid X) o n := by
  pointwise [k0_pay4]
  rw [hi, show Scalar.subi (10000#32) (Scalar.muli (BitVec.ofNat 32 0) 5120#32) = BitVec.ofNat 32 10000 by decide,
    WordCmp.cmpi_slt_ofNat (by have := n.isLt; omega) (by omega), WordCmp.select_decide, if_pos (by have := n.isLt; omega), pay2_at]

/-- The second block has 4880 columns of the array. -/
theorem pay4_second (i : grid0.Coords) (hi : (i 0).val = 1) (A : Vec Ideal S128x128 .f32) (X : Vec Ideal S128x5120 .f32) (o : Fin 128) (n : Fin 5120) :
    k0_pay4 (F := Ideal) i A X (ix2 o n) = if n.val < 4880 then mulCols (grid A) (grid X) o n else 0 := by
  pointwise [k0_pay4]
  rw [hi, show Scalar.subi (10000#32) (Scalar.muli (BitVec.ofNat 32 1) 5120#32) = BitVec.ofNat 32 4880 by decide,
    WordCmp.cmpi_slt_ofNat (by have := n.isLt; omega) (by omega), WordCmp.select_decide, pay2_at]

/-- The running sum after a block. -/
theorem pay5_at (i : grid0.Coords) (A : Vec Ideal S128x128 .f32) (X : Vec Ideal S128x5120 .f32) (a : EReal) :
    k0_pay5 (F := Ideal) i A X a = a + ∑ o : Fin 128, ∑ n : Fin 5120, k0_pay4 (F := Ideal) i A X (ix2 o n) := by
  pointwise [k0_pay5]

/-- The running sum of squares after a block. -/
theorem pay6_at (i : grid0.Coords) (A : Vec Ideal S128x128 .f32) (X : Vec Ideal S128x5120 .f32) (a : EReal) :
    k0_pay6 (F := Ideal) i A X a
      = a + ∑ o : Fin 128, ∑ n : Fin 5120, k0_pay4 (F := Ideal) i A X (ix2 o n) * k0_pay4 (F := Ideal) i A X (ix2 o n) := by
  pointwise [k0_pay6]

/-- The mean from the sum. -/
theorem pay7_at (a : EReal) : k0_pay7 (F := Ideal) a = Ideal.div a count := rfl

/-- The reciprocal deviation from the two sums. -/
theorem pay8_at (a b : EReal) : k0_pay8 (F := Ideal) a b = rstdOf a b := rfl

/-- A row of an output block: the answer for the node of that column of z. -/
theorem pay9_at (z : Vec Ideal S128x2048 .f32) (a b : EReal) (C L1 : Vec Ideal S128x128 .f32) (L2 : Vec Ideal S1024x128 .f32) (r : Fin 2048) (j : Fin 1024) :
    k0_pay9 (F := Ideal) z a b C L1 L2 (ix2 r j) = answer (grid L1) (grid L2) (features (grid C) (grid z) a b r) j := by
  have e : Ideal.ofBits .f32 0xFF800000#32 = ⊥ := by simp [Ideal.ofBits, Ideal.ieee]
  unfold answer logSoftmax top scores elu features grid
  pointwise [k0_pay9]
  rw [e]

end Cert.KernelIdeal.Hand

end
-- ==== Proof.Value.Blocks.lean ====
module

public import proofs.«01_k».proof.Proof.KernelIdeal.Run
public import proofs.«01_k».proof.Proof.Value.Payload
public import Idealize.ShloMosaic.Lib.Pipeline.ValueKit
public import Idealize.ShloMosaic.Lib.Claim

/-!
What the body finds in its input buffers, as entries of the kernel's arguments.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Net

variable (m : (ℓ : Loc nD τ sig) → Buf (Elt Ideal) ℓ) (c : Dev nD)

/-- The features: 128 rows of 10000 nodes. -/
def argX (k : Fin 128) (n : Fin 10000) : EReal := m ((c.tc : Thread nD τ).loc main_arg0) (ix3 0 k n)
/-- The opening matrix. -/
def argK1 (a b : Fin 128) : EReal := m ((c.tc : Thread nD τ).loc main_arg2) (ix2 a b)
/-- The second opening matrix. -/
def argK2 (a b : Fin 128) : EReal := m ((c.tc : Thread nD τ).loc main_arg3) (ix2 a b)
/-- The closing matrix. -/
def argKc (a b : Fin 128) : EReal := m ((c.tc : Thread nD τ).loc main_arg4) (ix2 a b)
/-- The convolution's matrix. -/
def argWc (a b : Fin 128) : EReal := m ((c.tc : Thread nD τ).loc main_arg5) (ix3 0 a b)
/-- The first dense layer's matrix. -/
def argL1 (a b : Fin 128) : EReal := m ((c.tc : Thread nD τ).loc main_arg6) (ix2 a b)
/-- The second dense layer's matrix. -/
def argL2 (a : Fin 1024) (b : Fin 128) : EReal := m ((c.tc : Thread nD τ).loc main_arg8) (ix2 a b)

theorem idx0 : ∀ t : Fin grid0.N, win0_0.index t = ![0, min t.val 1] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel

theorem open_at (t : Fin cfg0.N) : grid (openIn m c t) = argK1 m c := by
  funext a b; unfold grid openIn argK1; blk_ext [iblk, V, idx1 t]
theorem close_at (t : Fin cfg0.N) : grid (closeIn m c t) = argKc m c := by
  funext a b; unfold grid closeIn argKc; blk_ext [iblk, V, idx2 t]
theorem conv_at (t : Fin cfg0.N) : grid (convIn m c t) = argWc m c := by
  funext a b; unfold grid convIn argWc; blk_point [iblk, V, idx3 t]
theorem open2_at (t : Fin cfg0.N) : grid (open2In m c t) = argK2 m c := by
  funext a b; unfold grid open2In argK2; blk_ext [iblk, V, idx4 t]
theorem lin1_at (t : Fin cfg0.N) : grid (lin1In m c t) = argL1 m c := by
  funext a b; unfold grid lin1In argL1; blk_ext [iblk, V, idx5 t]
theorem lin2_at (t : Fin cfg0.N) : grid (lin2In m c t) = argL2 m c := by
  funext a b; unfold grid lin2In argL2; blk_ext [iblk, V, idx6 t]

/-- The columns of the features a block brings: those of the array at `5120 t + n`. -/
theorem x_at (t : Fin cfg0.N) (d : Vec Ideal S128x5120 .f32) (k : Fin 128) (n : Fin 5120) (h : 5120 * min t.val 1 + n.val < 10000) :
    grid (xIn m c t d) k n = argX m c k ⟨5120 * min t.val 1 + n.val, h⟩ := by
  have key : ∀ t : Fin cfg0.N, win0_0.xsize (cfg0.grid.coords t) 0 = 128 ∧ win0_0.xsize (cfg0.grid.coords t) 1 = min 5120 (10000 - 5120 * min t.val 1) := by
    decide +kernel
  have hm : (cfg0.win 0).moved (cfg0.grid.coords t) (ix2 k n) = true := by
    rw [Pipeline.Window.moved_iff]
    intro a
    fin_cases a
    · exact lt_of_lt_of_eq k.isLt (key t).1.symm
    · refine lt_of_lt_of_eq (b := min 5120 (10000 - 5120 * min t.val 1)) ?_ (key t).2.symm
      have := n.isLt
      show n.val < _
      omega
  unfold grid xIn Pipeline.Window.fill argX
  rw [dif_pos hm]
  blk_point [iblk, V, idx0 t]

/-! ## The scratch buffer of z -/

/-- Where an element of a rectangle of whole columns sits. -/
theorem emb_cols {w : ℕ} (off : Fin 2 → ℕ) (s : ℕ) (hoff : off = ![0, s])
    (inb : ∀ a, off a + (![128, w] : Fin 2 → ℕ) a ≤ S128x10240.size a) (o : Fin 128) (n : Fin w) (h : s + n.val < 10240) :
    (Rect.unit (s := S128x10240) off ![128, w] inb).emb (ix2 o n) = ix2 o ⟨s + n.val, h⟩ := by
  subst hoff
  funext a
  apply Fin.ext
  fin_cases a
  · show 0 + 1 * o.val = o.val
    omega
  · show s + 1 * n.val = s + n.val
    omega

/-- A column outside a rectangle of whole columns. -/
theorem not_mem_cols {w : ℕ} (off : Fin 2 → ℕ) (s : ℕ) (hoff : off = ![0, s])
    (inb : ∀ a, off a + (![128, w] : Fin 2 → ℕ) a ≤ S128x10240.size a) (o : Fin 128) (n : Fin 10240) (h : n.val < s) :
    (ix2 o n : S128x10240.Idx) ∉ (Rect.unit (s := S128x10240) off ![128, w] inb).set := by
  subst hoff
  intro hy
  obtain ⟨x, hx⟩ : ∃ x, (Rect.unit (s := S128x10240) ![0, s] ![128, w] inb).emb x = ix2 o n := by simpa [← Rect.map_emb_univ] using hy
  have e : s + 1 * (x 1).val = n.val := congrArg (fun y : S128x10240.Idx => (y 1).val) hx
  omega

/-- The first point's columns. -/
theorem put_first (Z : Vec Ideal S128x10240 .f32) (P : Vec Ideal S128x5120 .f32) (o : Fin 128) (n : Fin 5120) :
    putZ (grid0.coords t0_0) at_first.2.1 Z P (ix2 o ⟨n.val, by omega⟩) = P (ix2 o n) := by
  have e := emb_cols (w := 5120) (k0_off1 (grid0.coords t0_0)) 0 (by decide +kernel) (k0_off1_inb _ at_first.2.1) o n (by omega)
  rw [show (ix2 o ⟨n.val, by omega⟩ : S128x10240.Idx) = ix2 o ⟨0 + n.val, by omega⟩ by simp, ← e]
  exact Rect.overlay_emb _ _ _ _

/-- The second point's columns. -/
theorem put_second (Z : Vec Ideal S128x10240 .f32) (P : Vec Ideal S128x5120 .f32) (o : Fin 128) (n : Fin 5120) :
    putZ (grid0.coords t0_1) at_second.2.1 Z P (ix2 o ⟨5120 + n.val, by omega⟩) = P (ix2 o n) := by
  have e := emb_cols (w := 5120) (k0_off1 (grid0.coords t0_1)) 5120 (by decide +kernel) (k0_off1_inb _ at_second.2.1) o n (by omega)
  rw [← e]
  exact Rect.overlay_emb _ _ _ _

/-- The second point leaves the first's columns. -/
theorem put_second_keeps (Z : Vec Ideal S128x10240 .f32) (P : Vec Ideal S128x5120 .f32) (o : Fin 128) (n : Fin 10240) (h : n.val < 5120) :
    putZ (grid0.coords t0_1) at_second.2.1 Z P (ix2 o n) = Z (ix2 o n) :=
  Rect.overlay_of_not_mem _ _ _ (not_mem_cols (w := 5120) (k0_off1 (grid0.coords t0_1)) 5120 (by decide +kernel) (k0_off1_inb _ at_second.2.1) o n h)

theorem off2 : ∀ t : Fin grid0.N, 2 ≤ t.val → k0_off2 (grid0.coords t) = ![0, 2048 * (t.val - 2)] := by decide +kernel

/-- The columns a later point reads. -/
theorem get_at (t : Fin grid0.N) (ht : 2 ≤ t.val) (h4 : k0_cond4 (grid0.coords t) = 1#1) (Z : Vec Ideal S128x10240 .f32) (o : Fin 128) (r : Fin 2048)
    (h : 2048 * (t.val - 2) + r.val < 10240) :
    grid (getZ (grid0.coords t) h4 Z) o r = Z (ix2 o ⟨2048 * (t.val - 2) + r.val, h⟩) :=
  congrArg Z (emb_cols (w := 2048) (k0_off2 (grid0.coords t)) _ (off2 t ht) (k0_off2_inb _ h4) o r h)

end Cert.KernelIdeal.Hand

end
-- ==== Proof.Value.Memory.lean ====
module

public import proofs.«01_k».proof.Proof.Value.Blocks

/-!
What the scratch buffers hold before each grid point, and what each written block holds: the property kept along the
kernel's run.
-/

@[expose] public section

set_option maxRecDepth 16384

noncomputable section

namespace Cert.Net

/-- A sum over the nodes is the sum over the first 5120 and the sum over the other 4880, given here as 5120 terms of which the last 240 are zero. -/
theorem sum_blocks (f : Fin 10000 → EReal) :
    (∑ n : Fin 5120, f ⟨n.val, by omega⟩) + (∑ n : Fin 5120, if h : n.val < 4880 then f ⟨5120 + n.val, by omega⟩ else 0) = ∑ n, f n := by
  have e : (∑ n : Fin 5120, if h : n.val < 4880 then f ⟨5120 + n.val, by omega⟩ else 0) = ∑ n : Fin 4880, f ⟨5120 + n.val, by omega⟩ := by
    rw [show (∑ n : Fin 5120, if h : n.val < 4880 then f ⟨5120 + n.val, by omega⟩ else 0)
        = ∑ n : Fin (4880 + 240), if h : n.val < 4880 then f ⟨5120 + n.val, by omega⟩ else 0 from rfl, Fin.sum_univ_add]
    simp
  rw [e, show (∑ n, f n) = ∑ n : Fin (5120 + 4880), f n from rfl, Fin.sum_univ_add]
  rfl

/-- The same for all entries of a matrix. -/
theorem total_blocks (f : Fin 128 → Fin 10000 → EReal) :
    (∑ o : Fin 128, ∑ n : Fin 5120, f o ⟨n.val, by omega⟩)
      + (∑ o : Fin 128, ∑ n : Fin 5120, if h : n.val < 4880 then f o ⟨5120 + n.val, by omega⟩ else 0) = total f := by
  rw [← Finset.sum_add_distrib]
  exact Finset.sum_congr rfl fun o _ => sum_blocks (f o)

end Cert.Net

namespace Cert.KernelIdeal.Hand

open Cert.KernelIdeal Cert.KernelIdeal.Gen
open Idealize.ShloMosaic Idealize.ShloMosaic.TcCoe Idealize.ShloMosaic.Tactic
open Cert.Net

variable (m : (ℓ : Loc nD τ sig) → Buf (Elt Ideal) ℓ) (c : Dev nD)

/-- z: the opening product. -/
def zee : Fin 128 → Fin 10000 → EReal := mulCols (argK1 m c) (argX m c)

/-- The kernel's answer for a node. -/
def result (n : Fin 10000) : Fin 1024 → EReal :=
  answer (argL1 m c) (argL2 m c) (features (folded (argKc m c) (argWc m c) (argK2 m c)) (zee m c) (mean (zee m c)) (rstd (zee m c)) n)

/-- The scratch matrix is the folded one. -/
def HoldsC (C : Vec Ideal S128x128 .f32) : Prop := grid C = folded (argKc m c) (argWc m c) (argK2 m c)
/-- The scratch z holds its first `N` columns. -/
def HoldsZ (N : ℕ) (Z : Vec Ideal S128x10240 .f32) : Prop :=
  ∀ (o : Fin 128) (n : Fin 10000), n.val < N → Z (ix2 o ⟨n.val, by omega⟩) = zee m c o n
/-- The table of four words holds the two sums over the first block. -/
def HoldsFirst (S : Vec Ideal S4 .f32) : Prop :=
  cell 0 S = (∑ o : Fin 128, ∑ n : Fin 5120, zee m c o ⟨n.val, by omega⟩)
  ∧ cell 1 S = ∑ o : Fin 128, ∑ n : Fin 5120, zee m c o ⟨n.val, by omega⟩ * zee m c o ⟨n.val, by omega⟩
/-- The table holds the two sums over all entries. -/
def HoldsSums (S : Vec Ideal S4 .f32) : Prop :=
  cell 0 S = total (zee m c) ∧ cell 1 S = total fun o n => zee m c o n * zee m c o n
/-- The table holds the mean and the reciprocal deviation. -/
def HoldsStats (S : Vec Ideal S4 .f32) : Prop := cell 2 S = mean (zee m c) ∧ cell 3 S = rstd (zee m c)

/-- What is known of the scratch buffers before point `t`. -/
def Known (t : ℕ) (S : Vec Ideal S4 .f32) (C : Vec Ideal S128x128 .f32) (Z : Vec Ideal S128x10240 .f32) : Prop :=
  if t = 0 then True
  else if t = 1 then HoldsC m c C ∧ HoldsZ m c 5120 Z ∧ HoldsFirst m c S
  else if t = 2 then HoldsC m c C ∧ HoldsZ m c 10000 Z ∧ HoldsSums m c S
  else HoldsC m c C ∧ HoldsZ m c 10000 Z ∧ HoldsStats m c S

/-- What a written block holds: in each row of a node, that node's answer. -/
def Wrote (t : Fin cfg0.N) (X : Vec Ideal S2048x1024 .f32) : Prop :=
  ∀ (r : Fin 2048) (j : Fin 1024) (h : 2048 * (t.val - 2) + r.val < 10000), X (ix2 r j) = result m c ⟨2048 * (t.val - 2) + r.val, h⟩ j

/-- The block of z at the first point. -/
theorem block_first (d : Vec Ideal S128x5120 .f32) (o : Fin 128) (n : Fin 5120) :
    mulCols (grid (openIn m c t0_0)) (grid (xIn m c t0_0 d)) o n = zee m c o ⟨n.val, by omega⟩ := by
  unfold zee mulCols
  refine Finset.sum_congr rfl fun k _ => ?_
  rw [open_at, x_at m c t0_0 d k n (by have := n.isLt; show 5120 * min 0 1 + n.val < 10000; omega)]
  congr 2
  apply Fin.ext
  show 5120 * min 0 1 + n.val = n.val
  omega

/-- The block of z at the second point, in its 4880 columns. -/
theorem block_second (d : Vec Ideal S128x5120 .f32) (o : Fin 128) (n : Fin 5120) (h : n.val < 4880) :
    mulCols (grid (openIn m c t0_1)) (grid (xIn m c t0_1 d)) o n = zee m c o ⟨5120 + n.val, by omega⟩ := by
  unfold zee mulCols
  refine Finset.sum_congr rfl fun k _ => ?_
  rw [open_at, x_at m c t0_1 d k n (by show 5120 * min 1 1 + n.val < 10000; omega)]
  congr 2

/-- The rows written at a point from the scratch buffers' contents. -/
theorem wrote_of (t : Fin cfg0.N) (ht : 2 ≤ t.val) (h4 : k0_cond4 (grid0.coords t) = 1#1) (C : Vec Ideal S128x128 .f32) (Z : Vec Ideal S128x10240 .f32)
    (hC : HoldsC m c C) (hZ : HoldsZ m c 10000 Z) (a b : EReal) (ha : a = mean (zee m c)) (hb : b = rstd (zee m c)) :
    Wrote m c t (k0_pay9 (getZ (grid0.coords t) h4 Z) a b C (lin1In m c t) (lin2In m c t)) := by
  intro r j h
  rw [pay9_at, lin1_at, lin2_at, hC, ha, hb]
  unfold result features
  congr 1
  funext o
  refine Finset.sum_congr rfl fun i _ => ?_
  rw [get_at t ht h4 Z i r (by omega), hZ i ⟨2048 * (t.val - 2) + r.val, h⟩ h]

theorem keeps : Keeps m c (Known m c) (Wrote m c) where
  start := fun _ _ _ => trivial
  first := fun d S C Z _ => by
    refine ⟨?_, ?_, ?_, ?_⟩
    · funext a b
      show k0_pay1 (F := Ideal) _ _ _ _ (ix2 a b) = _
      rw [pay1_at, close_at, conv_at, open2_at]
    · intro o n hn
      have := put_first Z (k0_pay3 (openIn m c t0_0) (xIn m c t0_0 d)) o ⟨n.val, hn⟩
      refine this.trans ?_
      rw [pay3_at, block_first]
    · show k0_pay5 (F := Ideal) _ _ _ _ = _
      rw [pay5_at]
      simp only [pay4_first (grid0.coords t0_0) (by decide +kernel), block_first]
      exact (congrArg (· + _) Ideal.ofBits_zero_f32).trans (zero_add _)
    · show k0_pay6 (F := Ideal) _ _ _ _ = _
      rw [pay6_at]
      simp only [pay4_first (grid0.coords t0_0) (by decide +kernel), block_first]
      exact (congrArg (· + _) Ideal.ofBits_zero_f32).trans (zero_add _)
  second := fun d S C Z hi => by
    obtain ⟨hC, hZ, h0, h1⟩ : HoldsC m c C ∧ HoldsZ m c 5120 Z ∧ HoldsFirst m c S := hi
    refine ⟨hC, ?_, ?_, ?_⟩
    · intro o n _
      by_cases hn : n.val < 5120
      · exact (put_second_keeps Z (k0_pay3 (openIn m c t0_1) (xIn m c t0_1 d)) o ⟨n.val, by omega⟩ hn).trans (hZ o n hn)
      · obtain ⟨k, hk, rfl⟩ : ∃ (k : ℕ) (hk : k < 4880), n = ⟨5120 + k, Nat.add_lt_add_left hk 5120⟩ :=
          ⟨n.val - 5120, by have := n.isLt; omega, Fin.ext (show n.val = 5120 + (n.val - 5120) by omega)⟩
        refine (put_second Z (k0_pay3 (openIn m c t0_1) (xIn m c t0_1 d)) o ⟨k, by omega⟩).trans ?_
        refine (pay3_at _ _ _ _).trans ?_
        exact block_second m c d o ⟨k, by omega⟩ hk
    · show k0_pay5 (F := Ideal) _ _ _ _ = _
      rw [pay5_at, h0, ← total_blocks]
      refine congrArg (_ + ·) (Finset.sum_congr rfl fun o _ => Finset.sum_congr rfl fun n _ => ?_)
      rw [pay4_second (grid0.coords t0_1) (by decide +kernel)]
      split
      · rw [block_second _ _ _ _ _ (by assumption)]
      · rfl
    · show k0_pay6 (F := Ideal) _ _ _ _ = _
      rw [pay6_at, h1, ← total_blocks]
      refine congrArg (_ + ·) (Finset.sum_congr rfl fun o _ => Finset.sum_congr rfl fun n _ => ?_)
      rw [pay4_second (grid0.coords t0_1) (by decide +kernel)]
      split
      · rw [block_second _ _ _ _ _ (by assumption)]
      · exact zero_mul _
  third := fun S C Z hi => by
    obtain ⟨hC, hZ, h0, h1⟩ : HoldsC m c C ∧ HoldsZ m c 10000 Z ∧ HoldsSums m c S := hi
    have e7 : k0_pay7 (F := Ideal) (cell 0 S) = mean (zee m c) := by rw [pay7_at, h0]; rfl
    have e8 : k0_pay8 (F := Ideal) (cell 0 S) (cell 1 S) = rstd (zee m c) := by rw [pay8_at, h0, h1]; rfl
    exact ⟨⟨hC, hZ, e7, e8⟩, wrote_of m c t0_2 (by decide) at_third.2.2.2 C Z hC hZ _ _ e7 e8⟩
  later := fun t ht S C Z hi => by
    have k1 : ∀ n, 3 ≤ n → Known m c n S C Z = (HoldsC m c C ∧ HoldsZ m c 10000 Z ∧ HoldsStats m c S) := fun n hn => by
      unfold Known; rw [if_neg (by omega), if_neg (by omega), if_neg (by omega)]
    rw [k1 _ ht] at hi
    rw [k1 _ (by omega)]
    exact ⟨hi, wrote_of m c t (by omega) (at_later t ht).2.2.2 C Z hi.1 hi.2.1 _ _ hi.2.2.1 hi.2.2.2⟩

end Cert.KernelIdeal.Hand

end
-- ==== Proof.Value.Output.lean ====
module

public import proofs.«01_k».proof.Proof.Value.Memory

/-!
What the output array holds after the kernel's run: in row n, the kernel's answer for node n.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat Dat)
open Cert.Net

variable (m : (ℓ : Loc nD τ sig) → Buf (Elt Ideal) ℓ) (c : Dev nD)

/-- The whole output array. -/
def output : Buf (Elt Ideal) ((c.tc : Thread nD τ).loc main_v2) := fun i : S10000x1024.Idx => result m c (i 0) (i 1)

theorem idx7 : ∀ t : Fin grid0.N, win0_7.index t = ![t.val - 2, 0] := by decide +kernel

theorem flushed_late : ∀ t : Fin cfg0.N, (cfg0.win 7).flush t = true → 2 ≤ t.val := by decide +kernel

theorem output_after {r : PUnit × MemSt nD τ sig (Elt Ideal)} (h : RDat.FramePost (cfgs 0) (rdat m (Known m c) (Wrote m c)) (V m) r) :
    r.2.mem ((c.tc : Thread nD τ).loc main_v2) = output m c := by
  obtain ⟨after, hleaves, harr⟩ := h.exists_exact c
  refine (harr 7).trans ?_
  refine ((rdat m (Known m c) (Wrote m c) c).withAfter after).arrAt_eq_of_covers 7 (output m c) (by decide +kernel) fun t hf y => ?_
  obtain ⟨_, _, hw⟩ := hleaves 7 t hf
  have hwrote : Wrote m c t (after 7 t) := hw (flushed_late t hf)
  blk_simp
  rw [RDat.withAfter_after]
  have key : ∀ t : Fin cfg0.N, win0_7.xsize (cfg0.grid.coords t) 0 = min 2048 (10000 - 2048 * (t.val - 2)) ∧ win0_7.xsize (cfg0.grid.coords t) 1 = 1024 := by
    decide +kernel
  have h0 : (y 0).val < min 2048 (10000 - 2048 * (t.val - 2)) := lt_of_lt_of_eq (y 0).isLt (key t).1
  have h1 : (y 1).val < 1024 := lt_of_lt_of_eq (y 1).isLt (key t).2
  have ex : (cfg0.win 7).xinj (cfg0.grid.coords t) y = ix2 (⟨(y 0).val, by omega⟩ : Fin 2048) (⟨(y 1).val, h1⟩ : Fin 1024) := by
    funext a
    apply Fin.ext
    fin_cases a <;> rfl
  have ee : (win0_7.blk t).view.emb y = ix2 (⟨2048 * (t.val - 2) + (y 0).val, by omega⟩ : Fin 10000) (⟨(y 1).val, h1⟩ : Fin 1024) := by
    blk_ext [idx7 t]
  rw [ex, ee]
  exact hwrote _ _ (by show 2048 * (t.val - 2) + (y 0).val < 10000; omega)

/-- The kernel's run: it ends with the output array as said and the arguments as they were. -/
theorem value_run (ρ : Dev nD → PrngReg) : θ_run defs (onTc (τ := τ) (main (F := Ideal))) ⟨m, fun _ => 0, ρ⟩ (fun r => (∀ c : Dev nD,
      r.2.mem ((c.tc : Thread nD τ).loc main_v2) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) := by
  have one : ∀ c : Dev nD, c = 0 := by decide
  refine (θ_run defs _ _).mono (fun r h c => ?_)
    (run ρ (Inv := Known m 0) (R7 := Wrote m 0) (fun c => by rw [one c]; exact keeps m 0))
  refine ⟨?_, args_kept h.1 c⟩
  rw [one c]
  exact output_after m 0 h.1

end Cert.KernelIdeal.Hand

end
-- ==== Proof.Value.Reference.lean ====
module

public import proofs.«01_k».proof.Proof.Gen.ReferenceIdeal.Read
public import proofs.«01_k».proof.Proof.Value.Net
public import Idealize.ShloMosaic.Lib.Pointwise

/-!
What the reference computes, read at an index over the extended reals, in groups of its operations.
-/

@[expose] public section

set_option maxRecDepth 16384

noncomputable section

namespace Cert.ReferenceIdeal.Hand

open Cert.ReferenceIdeal Cert.ReferenceIdeal.Gen Cert.ReferenceIdeal.Read
open Idealize.ShloMosaic Cert.Net

variable (x0 : (⟨S1x128x10000, .f32⟩ : BufTy).Contents (Elt Ideal)) (x2 x3 x4 : (⟨S128x128, .f32⟩ : BufTy).Contents (Elt Ideal))
  (x5 : (⟨S1x128x128, .f32⟩ : BufTy).Contents (Elt Ideal)) (x6 : (⟨S128x128, .f32⟩ : BufTy).Contents (Elt Ideal))
  (x7 : (⟨S128, .f32⟩ : BufTy).Contents (Elt Ideal)) (x8 : (⟨S1024x128, .f32⟩ : BufTy).Contents (Elt Ideal)) (x9 : (⟨S1024, .f32⟩ : BufTy).Contents (Elt Ideal))

/-- A matrix argument as a function of row and column. -/
def rows {a b : ℕ} (f : (⟨2, ![a, b]⟩ : Shape).Idx → EReal) (i : Fin a) (j : Fin b) : EReal := f (ix2 i j)
/-- A one-batch argument likewise. -/
def slab {a b : ℕ} (f : (⟨3, ![1, a, b]⟩ : Shape).Idx → EReal) (i : Fin a) (j : Fin b) : EReal := f (ix3 0 i j)

/-- z as the reference forms it. -/
abbrev refZ : Fin 128 → Fin 10000 → EReal := mulCols (rows x2) (slab x0)

/-- The opening product. -/
theorem v1_at (o : Fin 128) (n : Fin 10000) : val_main_v1 (F := Ideal) x0 x2 (ix3 0 o n) = refZ x0 x2 o n := by
  unfold refZ mulCols rows slab
  pointwise [val_main_v1, val_main_v0]
  exact Finset.sum_congr rfl fun k _ => mul_comm _ _

/-- Its mean. -/
theorem v3_at (i : S_.Idx) : val_main_v3 (F := Ideal) x0 x2 i = mean (refZ x0 x2) := by
  pointwise [val_main_v3, val_main_v2, val_main_cst_0, val_main_cst]
  unfold mean total
  rw [Fin.sum_univ_one]
  simp only [v1_at]
  rfl

/-- Its deviation. -/
theorem v12_at (i : S_.Idx) : val_main_v12 (F := Ideal) x0 x2 i = deviation (refZ x0 x2) := by
  pointwise [val_main_v12, val_main_v11, val_main_v8, val_main_v7, val_main_v6, val_main_v5, val_main_v4, val_main_cst_1, val_main_cst_2, val_main_cst_3]
  unfold deviation total
  rw [Fin.sum_univ_one]
  simp only [v1_at, v3_at]
  rfl

/-- The hyperbolic tangents. -/
theorem v15_at (o : Fin 128) (n : Fin 10000) : val_main_v15 (F := Ideal) x0 x2 (ix3 0 o n) = squashed (refZ x0 x2) o n := by
  pointwise [val_main_v15, val_main_v14, val_main_v13, val_main_v10, val_main_v9]
  rw [v1_at, v3_at, v12_at]
  rfl

/-- The second opening product. -/
theorem v17_at (o : Fin 128) (n : Fin 10000) : val_main_v17 (F := Ideal) x0 x2 x3 (ix3 0 o n) = mulCols (rows x3) (squashed (refZ x0 x2)) o n := by
  unfold mulCols rows
  pointwise [val_main_v17, val_main_v16]
  exact Finset.sum_congr rfl fun k _ => by rw [v15_at]; exact mul_comm _ _

/-- The update. -/
theorem v38_at (o : Fin 128) (n : Fin 10000) :
    val_main_v38 (F := Ideal) x0 x2 x3 x5 (ix3 0 o n) = updated (slab x5) (mulCols (rows x3) (squashed (refZ x0 x2))) o n := by
  pointwise [val_main_v38, val_main_v37, val_main_v36, val_main_cst_10, val_main_v35, val_main_v34, val_main_cst_9, val_main_v33, val_main_v32,
    val_main_v31, val_main_cst_8, val_main_v30, val_main_v29, val_main_v28, val_main_v27, val_main_cst_7, val_main_v26, val_main_v25, val_main_v24, val_main_cst_6,
    val_main_v23, val_main_v22, val_main_cst_5, val_main_v21, val_main_v20, val_main_v19, val_main_v18, val_main_cst_4]
  simp only [v17_at]
  unfold updated mixed slab
  simp only [mul_comm (x5 _)]
  rfl

/-- The features, one row for each node. -/
theorem v42_at (o : Fin 128) (n : Fin 10000) :
    val_main_v42 (F := Ideal) x0 x2 x3 x4 x5 (ix2 n o) = refFeatures (rows x3) (rows x4) (slab x5) (refZ x0 x2) n o := by
  unfold refFeatures mulCols rows
  pointwise [val_main_v42, val_main_v41, val_main_v40, val_main_v39]
  exact Finset.sum_congr rfl fun k _ => by rw [v38_at]; exact mul_comm _ _

/-- The first dense layer. -/
theorem v47_at (h7 : ∀ i, x7 i = (0 : EReal)) (n : Fin 10000) (o : Fin 128) : val_main_v47 (F := Ideal) x0 x2 x3 x4 x5 x6 x7 (ix2 n o)
    = ∑ i : Fin 128, rows x6 o i * refFeatures (rows x3) (rows x4) (slab x5) (refZ x0 x2) n i := by
  pointwise [val_main_v47, val_main_v46, val_main_v45, val_main_v44, val_main_v43]
  rw [h7, add_zero]
  exact Finset.sum_congr rfl fun k _ => by rw [v42_at]; exact mul_comm _ _

/-- The activation: the reference takes the exponential of zero where the input is positive, and drops it. -/
theorem v48_at (n : Fin 10000) (o : Fin 128) : val_main_v48 (F := Ideal) x0 x2 x3 x4 x5 x6 x7 (ix2 n o)
    = elu (val_main_v47 (F := Ideal) x0 x2 x3 x4 x5 x6 x7 (ix2 n o)) := by
  pointwise [val_main_v48, val_main_call0_v7, val_main_call0_v6, val_main_call0_cst_2, val_main_call0_v5, val_main_call0_v4, val_main_call0_call0_v1, val_main_call0_call0_v0, val_main_call0_cst_1, val_main_call0_v3, val_main_call0_v2, val_main_call0_cst_0,
     val_main_call0_v1, val_main_call0_v0, val_main_call0_cst]
  unfold elu
  split <;> rfl

/-- The second dense layer. -/
theorem v53_at (h7 : ∀ i, x7 i = (0 : EReal)) (h9 : ∀ i, x9 i = (0 : EReal)) (n : Fin 10000) (j : Fin 1024) :
    val_main_v53 (F := Ideal) x0 x2 x3 x4 x5 x6 x7 x8 x9 (ix2 n j)
      = scores (rows x6) (rows x8) (refFeatures (rows x3) (rows x4) (slab x5) (refZ x0 x2) n) j := by
  pointwise [val_main_v53, val_main_v52, val_main_v51, val_main_v50, val_main_v49]
  rw [h9, add_zero]
  exact Finset.sum_congr rfl fun k _ => by rw [v48_at, v47_at _ _ _ _ _ _ _ h7]; rfl

theorem ofBits_bot : Ideal.ofBits .f32 0xFF800000#32 = ⊥ := by simp [Ideal.ofBits, Ideal.ieee]

/-- The maximum of a row. -/
theorem row_max (y : Vec Ideal S10000x1024 .f32) (b : Vec Ideal S_ .f32) (hb : ∀ i, b i = (⊥ : EReal)) (n : Fin 10000) :
    Host.reduce (α := Ideal .f32) FloatOps.maximumf y b reducesTo_S10000x1024_S10000_d1 h_S_ (ix1 n) = top fun j => y (ix2 n j) := by
  refine (Host.reduce_eq_fold_single (α := EReal) max y b reducesTo_S10000x1024_S10000_d1 (by decide) h_S_ (ix1 n)).trans ?_
  rw [hb]
  unfold top
  refine congrArg (fun f => Finset.univ.fold max ⊥ f) ?_
  funext j
  refine congrArg y ?_
  funext a
  fin_cases a <;> rfl

/-- The maximum of a row of scores. -/
theorem v0_at (n : Fin 10000) : val_main_call1_v0 (F := Ideal) x0 x2 x3 x4 x5 x6 x7 x8 x9 (ix1 n)
    = top fun j => val_main_v53 (F := Ideal) x0 x2 x3 x4 x5 x6 x7 x8 x9 (ix2 n j) := by
  unfold val_main_call1_v0
  exact row_max _ _ (fun _ => ofBits_bot) n

theorem less_max (a b c : Ideal .f32) : FloatOps.subf (F := Ideal) a (FloatOps.maximumf b c) = ((a : EReal) - max (b : EReal) c) := rfl

/-- The scores less their row's maximum. -/
theorem c5_at (n : Fin 10000) (j : Fin 1024) : val_main_call1_v5 (F := Ideal) x0 x2 x3 x4 x5 x6 x7 x8 x9 (ix2 n j)
    = val_main_v53 (F := Ideal) x0 x2 x3 x4 x5 x6 x7 x8 x9 (ix2 n j) - top fun j => val_main_v53 (F := Ideal) x0 x2 x3 x4 x5 x6 x7 x8 x9 (ix2 n j) := by
  have e : idx_main_call1_v3 (idx_main_call1_v4 (ix2 n j)) = ix1 n := by
    funext a
    fin_cases a
    rfl
  rw [val_main_call1_v5_apply, val_main_call1_v4_apply, val_main_call1_v3_apply, e, val_main_call1_v2_apply, v0_at]
  refine (less_max _ _ _).trans ?_
  rw [val_main_call1_v1_apply, val_main_call1_cst_0_apply]
  exact congrArg (fun b => _ - max b _) ofBits_bot |>.trans (congrArg (_ - ·) (bot_sup_eq _))

/-- The reference's result. -/
theorem v54_at (h7 : ∀ i, x7 i = (0 : EReal)) (h9 : ∀ i, x9 i = (0 : EReal)) (n : Fin 10000) (j : Fin 1024) :
    val_main_v54 (F := Ideal) x0 x2 x3 x4 x5 x6 x7 x8 x9 (ix2 n j)
      = answer (rows x6) (rows x8) (refFeatures (rows x3) (rows x4) (slab x5) (refZ x0 x2) n) j := by
  pointwise [val_main_v54, val_main_call1_v10, val_main_call1_v9, val_main_call1_v8, val_main_call1_v7, val_main_call1_v6, val_main_call1_cst_1]
  simp only [c5_at, v53_at _ _ _ _ _ _ _ _ _ h7 h9]
  rfl

end Cert.ReferenceIdeal.Hand

end
-- ==== Proof.Value.Equation.lean ====
module

public import proofs.«01_k».proof.Proof.Value.Net

/-!
The kernel's features are the reference's, when every entry that goes into them is a real number. Three identities carry
it: the variance is the mean of the squares less the square of the mean; multiplying by the reciprocal root is dividing
by the root; and the closing matrix, the update and the second opening matrix are linear, so that they fold into one matrix.
-/

@[expose] public section

set_option maxRecDepth 16384

noncomputable section

namespace Cert.Net

open Idealize.ShloMosaic

/-! ## The literals -/

theorem count_eq : count = ((1280000 : ℝ) : EReal) := by
  simp [count, Ideal.ofBits, Ideal.ieee, -EReal.coe_mul]; norm_num
theorem eps_eq : eps = ((10995116 / 1099511627776 : ℝ) : EReal) := by
  simp [eps, Ideal.ofBits, Ideal.ieee, -EReal.coe_mul]; norm_num
theorem two_eq : two = ((2 : ℝ) : EReal) := by
  simp [two, Ideal.ofBits, Ideal.ieee, -EReal.coe_mul]; norm_num
theorem step_eq : step = ((13421773 / 134217728 : ℝ) : EReal) := by
  simp [step, Ideal.ofBits, Ideal.ieee, -EReal.coe_mul]; norm_num
theorem rest_eq : rest = ((15099494 / 16777216 : ℝ) : EReal) := by
  simp [rest, Ideal.ofBits, Ideal.ieee, -EReal.coe_mul]; norm_num
theorem share0_eq : share0 = ((9974640 / 16777216 : ℝ) : EReal) := by
  simp [share0, Ideal.ofBits, Ideal.ieee, -EReal.coe_mul]; norm_num
theorem share1_eq : share1 = ((13605151 / 33554432 : ℝ) : EReal) := by
  simp [share1, Ideal.ofBits, Ideal.ieee, -EReal.coe_mul]; norm_num

/-! ## Sums of reals among the extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A matrix of reals as a matrix of extended reals. -/
def up {a b : ℕ} (f : Fin a → Fin b → ℝ) (i : Fin a) (j : Fin b) : EReal := (f i j : EReal)

/-- `mulCols` over the reals. -/
def mulReal {N : ℕ} (A : Fin 128 → Fin 128 → ℝ) (X : Fin 128 → Fin N → ℝ) (o : Fin 128) (n : Fin N) : ℝ := ∑ k : Fin 128, A o k * X k n
/-- `total` over the reals. -/
def totalReal (f : Fin 128 → Fin 10000 → ℝ) : ℝ := ∑ o : Fin 128, ∑ n : Fin 10000, f o n

theorem mulCols_up {N : ℕ} (A : Fin 128 → Fin 128 → ℝ) (X : Fin 128 → Fin N → ℝ) : mulCols (up A) (up X) = up (mulReal A X) := by
  funext o n
  simp only [mulCols, up, mulReal, ← EReal.coe_mul, coe_sum]

theorem total_up (f : Fin 128 → Fin 10000 → ℝ) : total (up f) = (totalReal f : EReal) := by
  simp only [total, up, totalReal, coe_sum]

theorem div_real (a b : ℝ) (hb : b ≠ 0) : Ideal.div (a : EReal) (b : EReal) = ((a / b : ℝ) : EReal) := by
  rw [Ideal.div_coe hb, ← EReal.coe_mul]
  congr 1
  ring

/-! ## The statistics -/

/-- The mean over the reals. -/
def meanReal (z : Fin 128 → Fin 10000 → ℝ) : ℝ := totalReal z / 1280000
/-- The variance over the reals, with the small number added. -/
def varReal (z : Fin 128 → Fin 10000 → ℝ) : ℝ :=
  totalReal (fun o n => (z o n - meanReal z) * (z o n - meanReal z)) / 1280000 + 10995116 / 1099511627776

theorem varReal_pos (z : Fin 128 → Fin 10000 → ℝ) : 0 < varReal z := by
  have : 0 ≤ totalReal (fun o n => (z o n - meanReal z) * (z o n - meanReal z)) :=
    Finset.sum_nonneg fun _ _ => Finset.sum_nonneg fun _ _ => mul_self_nonneg _
  unfold varReal
  positivity

/-- The variance is the mean of the squares less the square of the mean. -/
theorem varReal_eq (z : Fin 128 → Fin 10000 → ℝ) :
    totalReal (fun o n => z o n * z o n) / 1280000 - meanReal z * meanReal z + 10995116 / 1099511627776 = varReal z := by
  have e : totalReal (fun o n => (z o n - meanReal z) * (z o n - meanReal z))
      = totalReal (fun o n => z o n * z o n) - 2 * meanReal z * totalReal z + 1280000 * (meanReal z * meanReal z) := by
    unfold totalReal
    simp only [sub_mul, mul_sub, Finset.sum_sub_distrib, ← Finset.mul_sum, ← Finset.sum_mul, Finset.sum_const, Finset.card_univ, Fintype.card_fin,
      nsmul_eq_mul]
    push_cast
    ring
  have hm : totalReal z = 1280000 * meanReal z := by unfold meanReal; ring
  unfold varReal
  rw [e, hm]
  ring

theorem mean_up (z : Fin 128 → Fin 10000 → ℝ) : mean (up z) = (meanReal z : EReal) := by
  rw [mean, total_up, count_eq, div_real _ _ (by norm_num), meanReal]

theorem deviation_up (z : Fin 128 → Fin 10000 → ℝ) : deviation (up z) = (Real.sqrt (varReal z) : EReal) := by
  have e : (fun o n => (up z o n - mean (up z)) * (up z o n - mean (up z))) = up fun o n => (z o n - meanReal z) * (z o n - meanReal z) := by
    funext o n
    rw [mean_up]
    simp only [up, ← EReal.coe_sub, ← EReal.coe_mul]
  rw [deviation, e, total_up, count_eq, div_real _ _ (by norm_num), eps_eq, ← EReal.coe_add]
  change Ideal.sqrt ((varReal z : ℝ) : EReal) = _
  rw [Ideal.sqrt_coe, if_neg (not_lt.2 (varReal_pos z).le)]

theorem rstd_up (z : Fin 128 → Fin 10000 → ℝ) : rstd (up z) = (((Real.sqrt (varReal z))⁻¹ : ℝ) : EReal) := by
  have e : (fun o n => up z o n * up z o n) = up fun o n => z o n * z o n := by
    funext o n
    simp only [up, ← EReal.coe_mul]
  have hm : Ideal.div (total (up z)) count = (meanReal z : EReal) := mean_up z
  rw [rstd, rstdOf, hm, e, total_up, count_eq, div_real _ _ (by norm_num), eps_eq, ← EReal.coe_mul, ← EReal.coe_sub, ← EReal.coe_add, varReal_eq,
    Ideal.rsqrt_coe, if_neg (not_lt.2 (varReal_pos z).le), if_neg (varReal_pos z).ne']

/-- The hyperbolic tangents over the reals. -/
def squashReal (z : Fin 128 → Fin 10000 → ℝ) (o : Fin 128) (n : Fin 10000) : ℝ := Real.tanh ((z o n - meanReal z) * (Real.sqrt (varReal z))⁻¹)

theorem squashed_up (z : Fin 128 → Fin 10000 → ℝ) : squashed (up z) = up (squashReal z) := by
  funext o n
  rw [squashed, mean_up, deviation_up]
  simp only [up]
  rw [← EReal.coe_sub, div_real _ _ (Real.sqrt_pos.2 (varReal_pos z)).ne', Ideal.tanh_coe, squashReal, div_eq_mul_inv]

theorem kernel_squash (z : Fin 128 → Fin 10000 → ℝ) (o : Fin 128) (n : Fin 10000) :
    Ideal.tanh ((up z o n - mean (up z)) * rstd (up z)) = (squashReal z o n : EReal) := by
  rw [mean_up, rstd_up]
  simp only [up]
  rw [← EReal.coe_sub, ← EReal.coe_mul, Ideal.tanh_coe, squashReal]

/-! ## The folded matrix -/

/-- The folded matrix over the reals. -/
def foldReal (Kc Wc K2 : Fin 128 → Fin 128 → ℝ) (o i : Fin 128) : ℝ :=
  ∑ k : Fin 128, ((2520227950547453266280397952877 / 2535301200456458802993406410752) * Kc o k
    + (-328952368924001807490233205275 / 81129638414606681695789005144064) * ∑ l : Fin 128, Kc o l * Wc l k) * K2 k i

theorem folded_up (Kc Wc K2 : Fin 128 → Fin 128 → ℝ) : folded (up Kc) (up Wc) (up K2) = up (foldReal Kc Wc K2) := by
  funext o i
  simp only [folded, scaleX, scaleConv, up, foldReal, ← EReal.coe_mul, coe_sum, ← EReal.coe_add]

/-- The update over the reals. -/
def updReal (Wc : Fin 128 → Fin 128 → ℝ) (u : Fin 128 → ℝ) (o : Fin 128) : ℝ :=
  2 * u o - u o - (13421773 / 134217728) * ((13421773 / 134217728)
    * ((9974640 / 16777216) * ((15099494 / 16777216) * u o + (13421773 / 134217728) * u o)
      + (13605151 / 33554432) * ∑ l : Fin 128, Wc o l * ((15099494 / 16777216) * u l + (13421773 / 134217728) * u l)))

theorem updated_up (Wc : Fin 128 → Fin 128 → ℝ) (u : Fin 128 → Fin 10000 → ℝ) :
    updated (up Wc) (up u) = up fun o n => updReal Wc (fun l => u l n) o := by
  funext o n
  simp only [updated, mixed, two_eq, step_eq, rest_eq, share0_eq, share1_eq, up, updReal, ← EReal.coe_mul, coe_sum, ← EReal.coe_add, ← EReal.coe_sub]

/-- The update is the combination the folded matrix is made with. -/
theorem updReal_eq (Wc : Fin 128 → Fin 128 → ℝ) (u : Fin 128 → ℝ) (o : Fin 128) :
    updReal Wc u o = (2520227950547453266280397952877 / 2535301200456458802993406410752) * u o
      + (-328952368924001807490233205275 / 81129638414606681695789005144064) * ∑ l : Fin 128, Wc o l * u l := by
  have e : ∑ l : Fin 128, Wc o l * ((15099494 / 16777216) * u l + (13421773 / 134217728) * u l)
      = (15099494 / 16777216 + 13421773 / 134217728) * ∑ l : Fin 128, Wc o l * u l := by
    rw [Finset.mul_sum]
    exact Finset.sum_congr rfl fun l _ => by ring
  unfold updReal
  rw [e]
  ring

/-- The folded matrix on a vector: the second opening matrix, the update, the closing matrix. -/
theorem fold_apply (Kc Wc K2 : Fin 128 → Fin 128 → ℝ) (t : Fin 128 → ℝ) (o : Fin 128) :
    ∑ i : Fin 128, foldReal Kc Wc K2 o i * t i = ∑ k : Fin 128, Kc o k * updReal Wc (fun l => ∑ i : Fin 128, K2 l i * t i) k := by
  set u : Fin 128 → ℝ := fun l => ∑ i : Fin 128, K2 l i * t i with hu
  have e1 : ∀ g : Fin 128 → ℝ, ∑ i : Fin 128, (∑ k : Fin 128, g k * K2 k i) * t i = ∑ k : Fin 128, g k * u k := fun g => by
    simp only [Finset.sum_mul, hu, Finset.mul_sum]
    rw [Finset.sum_comm]
    exact Finset.sum_congr rfl fun k _ => Finset.sum_congr rfl fun i _ => by ring
  unfold foldReal
  rw [e1]
  simp only [updReal_eq, add_mul, mul_add, Finset.sum_add_distrib]
  congr 1
  · exact Finset.sum_congr rfl fun k _ => by ring
  · simp only [Finset.mul_sum, Finset.sum_mul]
    rw [Finset.sum_comm]
    exact Finset.sum_congr rfl fun k _ => Finset.sum_congr rfl fun l _ => by ring

/-! ## The equation -/

/-- The kernel's features are the reference's. -/
theorem features_eq (K2 Kc Wc : Fin 128 → Fin 128 → ℝ) (z : Fin 128 → Fin 10000 → ℝ) (n : Fin 10000) :
    features (folded (up Kc) (up Wc) (up K2)) (up z) (mean (up z)) (rstd (up z)) n = refFeatures (up K2) (up Kc) (up Wc) (up z) n := by
  funext o
  rw [features, refFeatures, squashed_up, mulCols_up, updated_up, mulCols_up, folded_up]
  simp only [kernel_squash]
  simp only [up, ← EReal.coe_mul, coe_sum, mulReal]
  rw [fold_apply]

/-- A matrix of finite entries is a matrix of reals. -/
theorem exists_up {a b : ℕ} (f : Fin a → Fin b → EReal) (h : ∀ i j, f i j ≠ ⊤ ∧ f i j ≠ ⊥) : ∃ r : Fin a → Fin b → ℝ, f = up r :=
  ⟨fun i j => (f i j).toReal, by funext i j; exact (EReal.coe_toReal (h i j).1 (h i j).2).symm⟩

/-- The equation, for finite arguments. -/
theorem answers_eq (K1 K2 Kc Wc L1 : Fin 128 → Fin 128 → EReal) (L2 : Fin 1024 → Fin 128 → EReal) (X : Fin 128 → Fin 10000 → EReal)
    (h1 : ∀ i j, K1 i j ≠ ⊤ ∧ K1 i j ≠ ⊥) (h2 : ∀ i j, K2 i j ≠ ⊤ ∧ K2 i j ≠ ⊥) (hc : ∀ i j, Kc i j ≠ ⊤ ∧ Kc i j ≠ ⊥)
    (hw : ∀ i j, Wc i j ≠ ⊤ ∧ Wc i j ≠ ⊥) (hx : ∀ i j, X i j ≠ ⊤ ∧ X i j ≠ ⊥) (n : Fin 10000) :
    answer L1 L2 (features (folded Kc Wc K2) (mulCols K1 X) (mean (mulCols K1 X)) (rstd (mulCols K1 X)) n)
      = answer L1 L2 (refFeatures K2 Kc Wc (mulCols K1 X) n) := by
  obtain ⟨k1, rfl⟩ := exists_up K1 h1
  obtain ⟨k2, rfl⟩ := exists_up K2 h2
  obtain ⟨kc, rfl⟩ := exists_up Kc hc
  obtain ⟨wc, rfl⟩ := exists_up Wc hw
  obtain ⟨x, rfl⟩ := exists_up X hx
  rw [mulCols_up, features_eq]

end Cert.Net

end
-- ==== Proof.Value.Tame.lean ====
module

public import proofs.«01_k».proof.Pre_tame
public import Idealize.ShloMosaic.PureOps.Ideal.Laws
public import Idealize.ShloMosaic.Lib.ReduceAll

/-!
What the precondition says of the arguments: five of them have finite entries only, and the two biases are zero.
-/

@[expose] public section

set_option maxRecDepth 16384

noncomputable section

namespace Cert.Tame

open Idealize.ShloMosaic Cert.Pre_tame

theorem inf_eq : Ideal.ofBits .f32 0x7F800000#32 = ⊤ := by simp [Ideal.ofBits, Ideal.ieee]

/-- An entry whose absolute value compares below infinity is finite. -/
theorem finite_of_lt (x : EReal) (h : Ideal.cmp .olt (max x (-x)) (Ideal.ofBits .f32 0x7F800000#32) = 1#1) : x ≠ ⊤ ∧ x ≠ ⊥ := by
  rw [inf_eq] at h
  refine ⟨fun e => ?_, fun e => ?_⟩ <;> · subst e; simp [Ideal.cmp] at h

/-- An entry that compares equal to zero is zero. -/
theorem zero_of_eq (x : EReal) (h : Ideal.cmp .oeq x (Ideal.ofBits .f32 0x00000000#32) = 1#1) : x = 0 := by
  rw [Ideal.ofBits_zero_f32] at h
  by_contra hx
  simp [Ideal.cmp, hx] at h

variable [Facts] (x0 : FVec Ideal S1x128x10000 .f32) (x1 : IVec S2x160000 32) (x2 x3 x4 : FVec Ideal S128x128 .f32) (x5 : FVec Ideal S1x128x128 .f32)
  (x6 : FVec Ideal S128x128 .f32) (x7 : FVec Ideal S128 .f32) (x8 : FVec Ideal S1024x128 .f32) (x9 : FVec Ideal S1024 .f32)

/-- The precondition, read. -/
theorem read (h : fn (F := Ideal) x0 x1 x2 x3 x4 x5 x6 x7 x8 x9 = fun _ => 1#1) :
    (∀ i, (x0 i : EReal) ≠ ⊤ ∧ (x0 i : EReal) ≠ ⊥) ∧ (∀ i, (x2 i : EReal) ≠ ⊤ ∧ (x2 i : EReal) ≠ ⊥)
    ∧ (∀ i, (x3 i : EReal) ≠ ⊤ ∧ (x3 i : EReal) ≠ ⊥) ∧ (∀ i, (x4 i : EReal) ≠ ⊤ ∧ (x4 i : EReal) ≠ ⊥)
    ∧ (∀ i, (x5 i : EReal) ≠ ⊤ ∧ (x5 i : EReal) ≠ ⊥) ∧ (∀ i, (x7 i : EReal) = 0) ∧ (∀ i, (x9 i : EReal) = 0) := by
  haveI : Subsingleton S_.Idx := ⟨fun a b => funext fun k => k.elim0⟩
  have e := congrFun h (fun k => k.elim0)
  unfold fn fn_part1 at e
  obtain ⟨e, h9⟩ := IntOp.andi_eq_one.1 e
  obtain ⟨e, h7⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨fun i => finite_of_lt _ (Host.reduce_andi_all _ _ _ _ _ h0 i), fun i => finite_of_lt _ (Host.reduce_andi_all _ _ _ _ _ h2 i),
    fun i => finite_of_lt _ (Host.reduce_andi_all _ _ _ _ _ h3 i), fun i => finite_of_lt _ (Host.reduce_andi_all _ _ _ _ _ h4 i),
    fun i => finite_of_lt _ (Host.reduce_andi_all _ _ _ _ _ h5 i), fun i => zero_of_eq _ (Host.reduce_andi_all _ _ _ _ _ h7 i),
    fun i => zero_of_eq _ (Host.reduce_andi_all _ _ _ _ _ h9 i)⟩

end Cert.Tame

end
-- ==== Proof.Value.Algebraic.lean ====
module

public import proofs.«01_k».proof.Defs
public import proofs.«01_k».proof.Proof.Gen.ReferenceIdeal.Run
public import proofs.«01_k».proof.Proof.Value.Output
public import proofs.«01_k».proof.Proof.Value.Reference
public import proofs.«01_k».proof.Proof.Value.Equation
public import proofs.«01_k».proof.Proof.Value.Tame
public import proofs.«01_k».proof.Proof.Gen.Pre_tame

/-!
The kernel's output array is the reference's, when the arguments are as the precondition says.
-/

@[expose] public section

set_option maxRecDepth 16384

noncomputable section

namespace Cert.Value

open Idealize.ShloMosaic Idealize.ShloMosaic.TcCoe Idealize.SL.Sem Cert.Net

/-- The two arrays agree at every index. -/
theorem arrays_eq (x0 : Vec Ideal Cert.KernelIdeal.S1x128x10000 .f32) (x2 x3 x4 : Vec Ideal Cert.KernelIdeal.S128x128 .f32)
    (x5 : Vec Ideal Cert.KernelIdeal.S1x128x128 .f32) (x6 : Vec Ideal Cert.KernelIdeal.S128x128 .f32) (x7 : Vec Ideal Cert.ReferenceIdeal.S128 .f32)
    (x8 : Vec Ideal Cert.KernelIdeal.S1024x128 .f32) (x9 : Vec Ideal Cert.ReferenceIdeal.S1024 .f32)
    (m : (ℓ : Loc Cert.KernelIdeal.nD Cert.KernelIdeal.τ Cert.KernelIdeal.sig) → Buf (Elt Ideal) ℓ) (c : Dev Cert.KernelIdeal.nD)
    (h : Cert.Pre_KernelIdeal_tame (hPre_tame := Cert.Pre_tame.Gen.facts) m)
    (e0 : x0 = m ((c.tc : Thread Cert.KernelIdeal.nD Cert.KernelIdeal.τ).loc Cert.KernelIdeal.main_arg0))
    (e2 : x2 = m ((c.tc : Thread Cert.KernelIdeal.nD Cert.KernelIdeal.τ).loc Cert.KernelIdeal.main_arg2))
    (e3 : x3 = m ((c.tc : Thread Cert.KernelIdeal.nD Cert.KernelIdeal.τ).loc Cert.KernelIdeal.main_arg3))
    (e4 : x4 = m ((c.tc : Thread Cert.KernelIdeal.nD Cert.KernelIdeal.τ).loc Cert.KernelIdeal.main_arg4))
    (e5 : x5 = m ((c.tc : Thread Cert.KernelIdeal.nD Cert.KernelIdeal.τ).loc Cert.KernelIdeal.main_arg5))
    (e6 : x6 = m ((c.tc : Thread Cert.KernelIdeal.nD Cert.KernelIdeal.τ).loc Cert.KernelIdeal.main_arg6))
    (e7 : x7 = m ((c.tc : Thread Cert.KernelIdeal.nD Cert.KernelIdeal.τ).loc Cert.KernelIdeal.main_arg7))
    (e8 : x8 = m ((c.tc : Thread Cert.KernelIdeal.nD Cert.KernelIdeal.τ).loc Cert.KernelIdeal.main_arg8))
    (e9 : x9 = m ((c.tc : Thread Cert.KernelIdeal.nD Cert.KernelIdeal.τ).loc Cert.KernelIdeal.main_arg9)) :
    Cert.ReferenceIdeal.Read.val_main_v54 (F := Ideal) x0 x2 x3 x4 x5 x6 x7 x8 x9 = Cert.KernelIdeal.Hand.output m c := by
  obtain ⟨f0, f2, f3, f4, f5, z7, z9⟩ := @Cert.Tame.read Cert.Pre_tame.Gen.facts _ _ _ _ _ _ _ _ _ _ (h c)
  subst e0 e2 e3 e4 e5 e6 e7 e8 e9
  funext i
  have ei : i = ix2 (i 0) (i 1) := by
    funext a
    fin_cases a <;> rfl
  rw [ei]
  refine (Cert.ReferenceIdeal.Hand.v54_at _ _ _ _ _ _ _ _ _ z7 z9 (i 0) (i 1)).trans ?_
  exact (congrFun (answers_eq (Cert.KernelIdeal.Hand.argK1 m c) (Cert.KernelIdeal.Hand.argK2 m c) (Cert.KernelIdeal.Hand.argKc m c)
    (Cert.KernelIdeal.Hand.argWc m c) (Cert.KernelIdeal.Hand.argL1 m c) (Cert.KernelIdeal.Hand.argL2 m c) (Cert.KernelIdeal.Hand.argX m c)
    (fun _ _ => f2 _) (fun _ _ => f3 _) (fun _ _ => f4 _) (fun _ _ => f5 _) (fun _ _ => f0 _) (i 0)) (i 1)).symm

/-- The kernel and the reference end with the same output array and their arguments unchanged. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := fun m g m' g' h e => by
  refine ⟨fun c => Cert.KernelIdeal.Hand.output m c, Cert.KernelIdeal.Hand.value_run m g, ?_⟩
  refine (θ_run Cert.ReferenceIdeal.defs _ _).mono (fun r hr c => ⟨?_, (hr c).2⟩) (Cert.ReferenceIdeal.Value.run (F := Ideal) m' g')
  refine (hr c).1.trans ?_
  refine (Cert.ReferenceIdeal.Read.val_main_v54_eq (F := Ideal) _).trans ?_
  obtain ⟨e0, e1, e2, e3, e4, e5, e6, e7, e8, e9⟩ := e c
  exact arrays_eq _ _ _ _ _ _ _ _ _ m c h e0 e2 e3 e4 e5 e6 e7 e8 e9

end Cert.Value

end
-- ==== Proof.lean ====
/- The claims about the kernel and its reference, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelIdeal.Run
public import proofs.«01_k».proof.Proof.Kernel.Run
public import proofs.«01_k».proof.Proof.Gen.Pre_tame
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The reference ends with its arguments unchanged and every semaphore at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_tame.Gen.facts,
  fun m ρ _ => Cert.Kernel.Hand.frame_run m ρ,
  fun m ρ _ => Cert.KernelIdeal.Hand.frame_run m ρ,
  fun m ρ _ => Cert.KernelIdeal.Hand.frame_run m ρ,
  reference_frame,
  fun m ρ _ => reference_frame m ρ trivial,
  ⟨IdealRules.named_const.statement Cert.KernelIdeal.κ "scale_x" .f32 _ _ rfl,
   IdealRules.named_const.statement Cert.KernelIdeal.κ "scale_conv" .f32 _ _ rfl⟩,
  Cert.Value.algebraic⟩

end Cert.Proof

end
